-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_pooled_finite [hPre_pooled_finite : Cert.Pre_pooled_finite.Facts] (m : (ℓ : Loc Cert.MergeIdeal.nD Cert.MergeIdeal.τ Cert.MergeIdeal.sig) → Buf (Elt Ideal) ℓ) : Prop :=
  ∀ c : Dev Cert.MergeIdeal.nD,
    (Cert.Pre_pooled_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_pooled_finite [hPre_pooled_finite : Cert.Pre_pooled_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_pooled_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_keys_finite [hPre_keys_finite : Cert.Pre_keys_finite.Facts] (m : (ℓ : Loc Cert.ProjIdeal.nD Cert.ProjIdeal.τ Cert.ProjIdeal.sig) → Buf (Elt Ideal) ℓ) : Prop :=
  ∀ c : Dev Cert.ProjIdeal.nD,
    (Cert.Pre_keys_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_keys_finite [hPre_keys_finite : Cert.Pre_keys_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_keys_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))) = (fun _ => 1#1)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_pooled_finite [hMergeIdeal : Cert.MergeIdeal.Facts] [hPre_pooled_finite : Cert.Pre_pooled_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_pooled_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_pooled_finite [hMergeRefIdeal : Cert.MergeRefIdeal.Facts] [hPre_pooled_finite : Cert.Pre_pooled_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_pooled_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_keys_finite [hProjIdeal : Cert.ProjIdeal.Facts] [hPre_keys_finite : Cert.Pre_keys_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_keys_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_keys_finite [hProjRefIdeal : Cert.ProjRefIdeal.Facts] [hPre_keys_finite : Cert.Pre_keys_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_keys_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v30) = v0 c
          ∧ r.2.mem ((c.tc : Thread Cert.MemKvRefIdeal.nD Cert.MemKvRefIdeal.τ).loc Cert.MemKvRefIdeal.main_v31) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v4)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v4) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v18) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_Merge_MergeIdeal : Prop :=
  True

def algebraic_MergeIdeal_MergeRefIdeal_pre_pooled_finite [hMergeIdeal : Cert.MergeIdeal.Facts] [hMergeRefIdeal : Cert.MergeRefIdeal.Facts] [hPre_pooled_finite : Cert.Pre_pooled_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_pooled_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v115) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal_pre_keys_finite [hProjIdeal : Cert.ProjIdeal.Facts] [hProjRefIdeal : Cert.ProjRefIdeal.Facts] [hPre_keys_finite : Cert.Pre_keys_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_keys_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v95_1)) (v1 : (c : Dev Cert.ProjIdeal.nD) → Buf (Elt Ideal) ((c.tc : Thread Cert.ProjIdeal.nD Cert.ProjIdeal.τ).loc Cert.ProjIdeal.main_v95_2)) (v2 : (c : Dev Cert.ProjIdeal.nD) → Buf (Elt Ideal) ((c.tc : Thread Cert.ProjIdeal.nD Cert.ProjIdeal.τ).loc Cert.ProjIdeal.main_v95_4)) (v3 : (c : Dev Cert.ProjIdeal.nD) → Buf (Elt Ideal) ((c.tc : Thread Cert.ProjIdeal.nD Cert.ProjIdeal.τ).loc Cert.ProjIdeal.main_v95_5)) (v4 : (c : Dev Cert.ProjIdeal.nD) → Buf (Elt Ideal) ((c.tc : Thread Cert.ProjIdeal.nD Cert.ProjIdeal.τ).loc Cert.ProjIdeal.main_v95_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v95_1) = v0 c
          ∧ r.2.mem ((c.tc : Thread Cert.ProjIdeal.nD Cert.ProjIdeal.τ).loc Cert.ProjIdeal.main_v95_2) = v1 c
          ∧ r.2.mem ((c.tc : Thread Cert.ProjIdeal.nD Cert.ProjIdeal.τ).loc Cert.ProjIdeal.main_v95_4) = v2 c
          ∧ r.2.mem ((c.tc : Thread Cert.ProjIdeal.nD Cert.ProjIdeal.τ).loc Cert.ProjIdeal.main_v95_5) = v3 c
          ∧ r.2.mem ((c.tc : Thread Cert.ProjIdeal.nD Cert.ProjIdeal.τ).loc Cert.ProjIdeal.main_v95_6) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v132) = v0 c
          ∧ r.2.mem ((c.tc : Thread Cert.ProjRefIdeal.nD Cert.ProjRefIdeal.τ).loc Cert.ProjRefIdeal.main_v133) = v1 c
          ∧ r.2.mem ((c.tc : Thread Cert.ProjRefIdeal.nD Cert.ProjRefIdeal.τ).loc Cert.ProjRefIdeal.main_v134) = v2 c
          ∧ r.2.mem ((c.tc : Thread Cert.ProjRefIdeal.nD Cert.ProjRefIdeal.τ).loc Cert.ProjRefIdeal.main_v135) = v3 c
          ∧ r.2.mem ((c.tc : Thread Cert.ProjRefIdeal.nD Cert.ProjRefIdeal.τ).loc Cert.ProjRefIdeal.main_v137) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def Claim : Prop :=
  ∃ (hMemKv : Cert.MemKv.Facts) (hMemKvIdeal : Cert.MemKvIdeal.Facts) (hMemKvRefIdeal : Cert.MemKvRefIdeal.Facts) (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_pooled_finite : Cert.Pre_pooled_finite.Facts) (hPre_keys_finite : Cert.Pre_keys_finite.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Merge (hMerge := hMerge)
    ∧ quiescent_MergeIdeal (hMergeIdeal := hMergeIdeal)
    ∧ quiescent_MergeIdeal_pre_pooled_finite (hMergeIdeal := hMergeIdeal) (hPre_pooled_finite := hPre_pooled_finite)
    ∧ quiescent_MergeRefIdeal (hMergeRefIdeal := hMergeRefIdeal)
    ∧ quiescent_MergeRefIdeal_pre_pooled_finite (hMergeRefIdeal := hMergeRefIdeal) (hPre_pooled_finite := hPre_pooled_finite)
    ∧ quiescent_Proj (hProj := hProj)
    ∧ quiescent_ProjIdeal (hProjIdeal := hProjIdeal)
    ∧ quiescent_ProjIdeal_pre_keys_finite (hProjIdeal := hProjIdeal) (hPre_keys_finite := hPre_keys_finite)
    ∧ quiescent_ProjRefIdeal (hProjRefIdeal := hProjRefIdeal)
    ∧ quiescent_ProjRefIdeal_pre_keys_finite (hProjRefIdeal := hProjRefIdeal) (hPre_keys_finite := hPre_keys_finite)
    ∧ preserves_MemKv_MemKvIdeal
    ∧ algebraic_MemKvIdeal_MemKvRefIdeal (hMemKvIdeal := hMemKvIdeal) (hMemKvRefIdeal := hMemKvRefIdeal)
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
    ∧ preserves_Merge_MergeIdeal
    ∧ algebraic_MergeIdeal_MergeRefIdeal_pre_pooled_finite (hMergeIdeal := hMergeIdeal) (hMergeRefIdeal := hMergeRefIdeal) (hPre_pooled_finite := hPre_pooled_finite)
    ∧ preserves_Proj_ProjIdeal
    ∧ algebraic_ProjIdeal_ProjRefIdeal_pre_keys_finite (hProjIdeal := hProjIdeal) (hProjRefIdeal := hProjRefIdeal) (hPre_keys_finite := hPre_keys_finite)
-- ==== Pre_keys_finite.lean ====
abbrev S16x64x1024 : Shape := ⟨3, ![16, 64, 1024]⟩
abbrev S1024 : Shape := ⟨1, ![1024]⟩
abbrev S1024x5160 : Shape := ⟨2, ![1024, 5160]⟩
abbrev S64 : Shape := ⟨1, ![64]⟩
abbrev S32 : Shape := ⟨1, ![32]⟩
abbrev S128 : Shape := ⟨1, ![128]⟩
abbrev S1024x128 : Shape := ⟨2, ![1024, 128]⟩
abbrev S1024x32 : Shape := ⟨2, ![1024, 32]⟩
abbrev S1024x160 : Shape := ⟨2, ![1024, 160]⟩
abbrev S1024x1 : Shape := ⟨2, ![1024, 1]⟩
abbrev S_ : Shape := ⟨0, ![]⟩

class Facts : Prop where
  slices_S1024x5160_S1024x128_0_512 : S1024x5160.Slices ![0, 512] S1024x128
  slices_S1024x5160_S1024x32_0_1024 : S1024x5160.Slices ![0, 1024] S1024x32
  concatenates_S1024x128_S1024x32_S1024x160_d1 : Shape.Concatenates [S1024x128, S1024x32] S1024x160 1
  bcast_S1024_S1024x1_0 : S1024.BroadcastsInDim S1024x1 (![0] : Fin 1 → Fin S1024x1.rank)
  bcast_S_S1024x160 : S_.BroadcastsInDim S1024x160 (![] : Fin 0 → Fin S1024x160.rank)
  bcast_S_S1024x1 : S_.BroadcastsInDim S1024x1 (![] : Fin 0 → Fin S1024x1.rank)
  bcast_S1024x1_S1024x160_0_1 : S1024x1.BroadcastsInDim S1024x160 (![0, 1] : Fin 2 → Fin S1024x160.rank)

variable [Facts]

def fn {F : FTy → Type} [FloatOps F] (main_arg0 : FVec F S16x64x1024 .f32) (main_arg1 : FVec F S1024 .f32) (main_arg2 : FVec F S1024x5160 .f32) (main_arg3 : FVec F S64 .f32) (main_arg4 : FVec F S64 .f32) (main_arg5 : FVec F S32 .f32) (main_arg6 : FVec F S128 .f32) : IVec S1024x160 1 :=
  let main_v0 : FVec F S1024x128 .f32 := (extractStridedSlice S1024x128 ![0, 512] · slices_S1024x5160_S1024x128_0_512) main_arg2
  let main_v1 : FVec F S1024x32 .f32 := (extractStridedSlice S1024x32 ![0, 1024] · slices_S1024x5160_S1024x32_0_1024) main_arg2
  let main_v2 : FVec F S1024x160 .f32 := (fun a b => concatenate S1024x160 1 [⟨S1024x128, a⟩, ⟨S1024x32, b⟩] concatenates_S1024x128_S1024x32_S1024x160_d1) main_v0 main_v1
  let main_v3 : FVec F S1024x1 .f32 := broadcastInDim S1024x1 ![0] bcast_S1024_S1024x1_0 main_arg1
  let main_cst : FVec F S_ .f32 := constant S_ .f32 0x7F800000#32
  let main_v4 : FVec F S1024x160 .f32 := broadcastInDim S1024x160 ![] bcast_S_S1024x160 main_cst
  let main_v5 : IVec S1024x160 1 := cmpf .olt main_v2 main_v4
  let main_cst_0 : FVec F S_ .f32 := constant S_ .f32 0xFF800000#32
  let main_v6 : FVec F S1024x160 .f32 := broadcastInDim S1024x160 ![] bcast_S_S1024x160 main_cst_0
  let main_v7 : IVec S1024x160 1 := cmpf .ogt main_v2 main_v6
  let main_v8 : IVec S1024x160 1 := andi main_v5 main_v7
  let main_cst_1 : FVec F S_ .f32 := constant S_ .f32 0x7F800000#32
  let main_v9 : FVec F S1024x1 .f32 := broadcastInDim S1024x1 ![] bcast_S_S1024x1 main_cst_1
  let main_v10 : IVec S1024x1 1 := cmpf .olt main_v3 main_v9
  let main_v11 : IVec S1024x160 1 := broadcastInDim S1024x160 ![0, 1] bcast_S1024x1_S1024x160_0_1 main_v10
  let main_v12 : IVec S1024x160 1 := andi main_v8 main_v11
  let main_cst_2 : FVec F S_ .f32 := constant S_ .f32 0xFF800000#32
  let main_v13 : FVec F S1024x1 .f32 := broadcastInDim S1024x1 ![] bcast_S_S1024x1 main_cst_2
  let main_v14 : IVec S1024x1 1 := cmpf .ogt main_v3 main_v13
  let main_v15 : IVec S1024x160 1 := broadcastInDim S1024x160 ![0, 1] bcast_S1024x1_S1024x160_0_1 main_v14
  let main_v16 : IVec S1024x160 1 := andi main_v12 main_v15
  main_v16
-- ==== Pre_pooled_finite.lean ====
abbrev S8x8192x1024 : Shape := ⟨3, ![8, 8192, 1024]⟩
abbrev S8x8192x512 : Shape := ⟨3, ![8, 8192, 512]⟩
abbrev S8x256x4x128 : Shape := ⟨4, ![8, 256, 4, 128]⟩
abbrev S1024 : Shape := ⟨1, ![1024]⟩
abbrev S1024x5160 : Shape := ⟨2, ![1024, 5160]⟩
abbrev S512x1024 : Shape := ⟨2, ![512, 1024]⟩
abbrev S1024x1024 : Shape := ⟨2, ![1024, 1024]⟩
abbrev S4x128x128 : Shape := ⟨3, ![4, 128, 128]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)

variable [Facts]

def fn {F : FTy → Type} [FloatOps F] (main_arg0 : FVec F S8x8192x1024 .f32) (main_arg1 : FVec F S8x8192x512 .bf16) (main_arg2 : FVec F S8x8192x512 .f32) (main_arg3 : FVec F S8x8192x512 .bf16) (main_arg4 : FVec F S8x256x4x128 .f32) (main_arg5 : FVec F S8x256x4x128 .f32) (main_arg6 : FVec F S1024 .f32) (main_arg7 : FVec F S1024x5160 .f32) (main_arg8 : FVec F S512x1024 .f32) (main_arg9 : FVec F S512x1024 .f32) (main_arg10 : FVec F S512x1024 .f32) (main_arg11 : FVec F S1024x1024 .f32) (main_arg12 : FVec F S4x128x128 .f32) (main_arg13 : FVec F S512 .f32) : IVec S8x8192x512 1 :=
  let main_cst : FVec F S_ .f32 := constant S_ .f32 0x7F800000#32
  let main_v0 : FVec F S8x8192x512 .f32 := broadcastInDim S8x8192x512 ![] bcast_S_S8x8192x512 main_cst
  let main_v1 : IVec S8x8192x512 1 := cmpf .olt main_arg2 main_v0
  let main_cst_0 : FVec F S_ .f32 := constant S_ .f32 0xFF800000#32
  let main_v2 : FVec F S8x8192x512 .f32 := broadcastInDim S8x8192x512 ![] bcast_S_S8x8192x512 main_cst_0
  let main_v3 : IVec S8x8192x512 1 := cmpf .ogt main_arg2 main_v2
  let main_v4 : IVec S8x8192x512 1 := andi main_v1 main_v3
  main_v4
-- ==== MemKv.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S2048x1024 : Shape := ⟨2, ![2048, 1024]⟩
abbrev S1x1024 : Shape := ⟨2, ![1, 1024]⟩
abbrev S1x128 : Shape := ⟨2, ![1, 128]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S2048x1024, .f32⟩
  | .hbm, ⟨5, _⟩ => ⟨S1x1024, .f32⟩
  | .hbm, ⟨6, _⟩ => ⟨S1024x1024, .bf16⟩
  | .hbm, ⟨7, _⟩ => ⟨S1x128, .f32⟩
  | .hbm, ⟨8, _⟩ => ⟨S2048x512, .f32⟩
  | .hbm, ⟨9, _⟩ => ⟨S2048x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S2048x512 : Shape := ⟨2, ![2048, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x512, .f32⟩
  | .hbm, ⟨22, _⟩ => ⟨S8x256x512, .f32⟩
  | .hbm, ⟨23, _⟩ => ⟨S8x256x4x128, .f32⟩
  | .hbm, ⟨24, _⟩ => ⟨S8x256x4x128, .f32⟩
  | .hbm, ⟨25, _⟩ => ⟨S_, .f32⟩
  | .hbm, ⟨26, _⟩ => ⟨S8x256x4, .f32⟩
  | .hbm, ⟨27, _⟩ => ⟨S8x256x4x1, .f32⟩
  | .hbm, ⟨28, _⟩ => ⟨S_, .f32⟩
  | .hbm, ⟨29, _⟩ => ⟨S8x256x4x1, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S8x256x4x1, .f32⟩
  | .hbm, ⟨35, _⟩ => ⟨S8x256x4x128, .f32⟩
  | .hbm, ⟨36, _⟩ => ⟨S8x256x4x128, .f32⟩
  | .hbm, ⟨37, _⟩ => ⟨S1x1x1x128, .f32⟩
  | .hbm, ⟨38, _⟩ => ⟨S8x256x4x128, .f32⟩
  | .hbm, ⟨39, _⟩ => ⟨S8x256x4x128, .f32⟩
  | .hbm, ⟨40, _⟩ => ⟨S2048x512, .f32⟩
  | .hbm, ⟨41, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S_, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== FfnS.lean ====
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnSRefIdeal.lean ====
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1024x1 : Shape := ⟨2, ![1024, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x2816, .f32⟩
  | .hbm, ⟨22, _⟩ => ⟨S1024x2816, .f32⟩
  | .hbm, ⟨23, _⟩ => ⟨S1024x2816, .f32⟩
  | .hbm, ⟨24, _⟩ => ⟨S_, .f32⟩
  | .hbm, ⟨25, _⟩ => ⟨S1024x2816, .f32⟩
  | .hbm, ⟨26, _⟩ => ⟨S1024x2816, .f32⟩
  | .hbm, ⟨27, _⟩ => ⟨S_, .f32⟩
  | .hbm, ⟨28, _⟩ => ⟨S1024x2816, .f32⟩
  | .hbm, ⟨29, _⟩ => ⟨S1024x2816, .f32⟩
  | .hbm, ⟨30, _⟩ => ⟨S1024x2816, .f32⟩
  | .hbm, ⟨31, _⟩ => ⟨S1024x2816, .f32⟩
  | .hbm, ⟨32, _⟩ => ⟨S1024x2816, .f32⟩
  | .hbm, ⟨33, _⟩ => ⟨S1024x1024, .f32⟩
  | .hbm, ⟨34, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S8x8192x1024 : Shape := ⟨3, ![8, 8192, 1024]⟩
abbrev S8x8192x512 : Shape := ⟨3, ![8, 8192, 512]⟩
abbrev S8x256x4x128 : Shape := ⟨4, ![8, 256, 4, 128]⟩
abbrev S1024 : Shape := ⟨1, ![1024]⟩
abbrev S1024x5160 : Shape := ⟨2, ![1024, 5160]⟩
abbrev S512x1024 : Shape := ⟨2, ![512, 1024]⟩
abbrev S1024x1024 : Shape := ⟨2, ![1024, 1024]⟩
abbrev S4x128x128 : Shape := ⟨3, ![4, 128, 128]⟩
abbrev S512 : Shape := ⟨1, ![512]⟩
abbrev S_ : Shape := ⟨0, ![]⟩
abbrev S8x16x512 : Shape := ⟨3, ![8, 16, 512]⟩
abbrev S1024x3072 : Shape := ⟨2, ![1024, 3072]⟩
abbrev S8x4x128x256 : Shape := ⟨4, ![8, 4, 128, 256]⟩
abbrev S8x4x256x128 : Shape := ⟨4, ![8, 4, 256, 128]⟩
abbrev S1x1024 : Shape := ⟨2, ![1, 1024]⟩
abbrev S1x512 : Shape := ⟨2, ![1, 512]⟩
abbrev S1x512x1024 : Shape := ⟨3, ![1, 512, 1024]⟩
abbrev S1x512x512 : Shape := ⟨3, ![1, 512, 512]⟩
abbrev S1x16x512 : Shape := ⟨3, ![1, 16, 512]⟩
abbrev S1x4x128x256 : Shape := ⟨4, ![1, 4, 128, 256]⟩
abbrev S1x4x256x128 : Shape := ⟨4, ![1, 4, 256, 128]⟩
abbrev S528x512 : Shape := ⟨2, ![528, 512]⟩
abbrev S512x1 : Shape := ⟨2, ![512, 1]⟩
abbrev S512x3072 : Shape := ⟨2, ![512, 3072]⟩
abbrev S512x512 : Shape := ⟨2, ![512, 512]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S1x1x128x256 : Shape := ⟨4, ![1, 1, 128, 256]⟩
abbrev S128x256 : Shape := ⟨2, ![128, 256]⟩
abbrev S512x256 : Shape := ⟨2, ![512, 256]⟩
abbrev S1x1x256x128 : Shape := ⟨4, ![1, 1, 256, 128]⟩
abbrev S256x128 : Shape := ⟨2, ![256, 128]⟩

abbrev nBuf : Space → Nat
  | .hbm => 30
  | .vmem => 27
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S8x8192x512, .bf16⟩
  | .hbm, ⟨4, _⟩ => ⟨S8x256x4x128, .f32⟩
  | .hbm, ⟨5, _⟩ => ⟨S8x256x4x128, .f32⟩
  | .hbm, ⟨6, _⟩ => ⟨S1024, .f32⟩
  | .hbm, ⟨7, _⟩ => ⟨S1024x5160, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S4x128x128, .f32⟩
  | .hbm, ⟨13, _⟩ => ⟨S512, .f32⟩
  | .hbm, ⟨14, _⟩ => ⟨S_, .f32⟩
  | .hbm, ⟨15, _⟩ => ⟨S8x16x512, .f32⟩
  | .hbm, ⟨16, _⟩ => ⟨S1024x3072, .f32⟩
  | .hbm, ⟨17, _⟩ => ⟨S8x256x4x128, .bf16⟩
  | .hbm, ⟨18, _⟩ => ⟨S8x4x128x256, .bf16⟩
  | .hbm, ⟨19, _⟩ => ⟨S8x256x4x128, .bf16⟩
  | .hbm, ⟨20, _⟩ => ⟨S8x4x256x128, .bf16⟩
  | .hbm, ⟨21, _⟩ => ⟨S1x1024, .f32⟩
  | .hbm, ⟨22, _⟩ => ⟨S1024x3072, .bf16⟩
  | .hbm, ⟨23, _⟩ => ⟨S512x1024, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S4x128x128, .bf16⟩
  | .hbm, ⟨28, _⟩ => ⟨S1x512, .f32⟩
  | .hbm, ⟨29, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x16x512, .f32⟩
  | .local _ .vmem, ⟨7, _⟩ => ⟨S1x16x512, .f32⟩
  | .local _ .vmem, ⟨8, _⟩ => ⟨S1x16x512, .f32⟩
  | .local _ .vmem, ⟨9, _⟩ => ⟨S1x16x512, .f32⟩
  | .local _ .vmem, ⟨10, _⟩ => ⟨S1x512x512, .bf16⟩
  | .local _ .vmem, ⟨11, _⟩ => ⟨S1x512x512, .bf16⟩
  | .local _ .vmem, ⟨12, _⟩ => ⟨S1x4x128x256, .bf16⟩
  | .local _ .vmem, ⟨13, _⟩ => ⟨S1x4x128x256, .bf16⟩
  | .local _ .vmem, ⟨14, _⟩ => ⟨S1x4x256x128, .bf16⟩
  | .local _ .vmem, ⟨15, _⟩ => ⟨S1x4x256x128, .bf16⟩
  | .local _ .vmem, ⟨16, _⟩ => ⟨S1x1024, .f32⟩
  | .local _ .vmem, ⟨17, _⟩ => ⟨S1024x3072, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S4x128x128, .bf16⟩
  | .local _ .vmem, ⟨23, _⟩ => ⟨S1x512, .f32⟩
  | .local _ .vmem, ⟨24, _⟩ => ⟨S1x512x1024, .f32⟩
  | .local _ .vmem, ⟨25, _⟩ => ⟨S1x512x1024, .f32⟩
  | .local _ .vmem, ⟨26, _⟩ => ⟨S528x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeRefIdeal.lean ====
abbrev S8x8192x1024 : Shape := ⟨3, ![8, 8192, 1024]⟩
abbrev S8x8192x512 : Shape := ⟨3, ![8, 8192, 512]⟩
abbrev S8x256x4x128 : Shape := ⟨4, ![8, 256, 4, 128]⟩
abbrev S1024 : Shape := ⟨1, ![1024]⟩
abbrev S1024x5160 : Shape := ⟨2, ![1024, 5160]⟩
abbrev S512x1024 : Shape := ⟨2, ![512, 1024]⟩
abbrev S1024x1024 : Shape := ⟨2, ![1024, 1024]⟩
abbrev S4x128x128 : Shape := ⟨3, ![4, 128, 128]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5160 : Shape := ⟨3, ![8, 8192, 5160]⟩
abbrev S8x8192x3072 : Shape := ⟨3, ![8, 8192, 3072]⟩
abbrev S8x8207x512 : Shape := ⟨3, ![8, 8207, 512]⟩
abbrev S8x1x512 : Shape := ⟨3, ![8, 1, 512]⟩
abbrev S8x8208x512 : Shape := ⟨3, ![8, 8208, 512]⟩
abbrev S8192 : Shape := ⟨1, ![8192]⟩
abbrev S8x8192x128 : Shape := ⟨3, ![8, 8192, 128]⟩
abbrev S1x8192x1 : Shape := ⟨3, ![1, 8192, 1]⟩
abbrev S8x8192x4x128 : Shape := ⟨4, ![8, 8192, 4, 128]⟩
abbrev S4x128x8x8192 : Shape := ⟨4, ![4, 128, 8, 8192]⟩
abbrev S1x1x512 : Shape := ⟨3, ![1, 1, 512]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩

abbrev nBuf : Space → Nat
  | .hbm => 153
  | .vmem => 0
  | .smem => 0
  | _ => 0

abbrev hbmTy0_0 (i : Nat) : BufTy := match i % 128 with
  | 0 => ⟨S8x8192x1024, .f32⟩
  | 1 => ⟨S8x8192x512, .bf16⟩
  | 2 => ⟨S8x8192x512, .f32⟩
  | 3 => ⟨S8x8192x512, .bf16⟩
  | 4 => ⟨S8x256x4x128, .f32⟩
  | 5 => ⟨S8x256x4x128, .f32⟩
  | 6 => ⟨S1024, .f32⟩
  | 7 => ⟨S1024x5160, .f32⟩
  | 8 => ⟨S512x1024, .f32⟩
  | 9 => ⟨S512x1024, .f32⟩
  | 10 => ⟨S512x1024, .f32⟩
  | 11 => ⟨S1024x1024, .f32⟩
  | 12 => ⟨S4x128x128, .f32⟩
  | 13 => ⟨S512, .f32⟩
  | 14 => ⟨S8x8192x1024, .f32⟩
  | 15 => ⟨S_, .f32⟩
  | 16 => ⟨S8x8192, .f32⟩
  | 17 => ⟨S8x8192x1, .f32⟩
  | 18 => ⟨S_, .f32⟩
  | 19 => ⟨S8x8192x1, .f32⟩
  | 20 => ⟨S8x8192x1, .f32⟩
  | 21 => ⟨S_, .f32⟩
  | 22 => ⟨S8x8192x1, .f32⟩
  | 23 => ⟨S8x8192x1, .f32⟩
  | 24 => ⟨S8x8192x1, .f32⟩
  | 25 => ⟨S8x8192x1024, .f32⟩
  | 26 => ⟨S8x8192x1024, .f32⟩
  | 27 => ⟨S1x1x1024, .f32⟩
  | 28 => ⟨S8x8192x1024, .f32⟩
  | 29 => ⟨S8x8192x1024, .f32⟩
  | 30 => ⟨S8x8192x5160, .f32⟩
  | 31 => ⟨S8x8192x3072, .f32⟩
  | 32 => ⟨S_, .i32⟩
  | 33 => ⟨S_, .f32⟩
  | 34 => ⟨S8x8207x512, .f32⟩
  | 35 => ⟨S8x8192x512, .f32⟩
  | 36 => ⟨S_, .f32⟩
  | 37 => ⟨S_, .f32⟩
  | 38 => ⟨S8x8207x512, .f32⟩
  | 39 => ⟨S8x1x512, .f32⟩
  | 40 => ⟨S_, .f32⟩
  | 41 => ⟨S8x1x512, .f32⟩
  | 42 => ⟨S8x8208x512, .f32⟩
  | 43 => ⟨S8192, .i32⟩
  | 44 => ⟨S_, .i32⟩
  | 45 => ⟨S8192, .i32⟩
  | 46 => ⟨S8192, .i32⟩
  | 47 => ⟨S8x8192x128, .f32⟩
  | 48 => ⟨S8x8192x128, .f32⟩
  | 49 => ⟨S8x8192x128, .f32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .f32⟩
  | 57 => ⟨S1x8192x1, .f32⟩
  | 58 => ⟨S8x8192x128, .f32⟩
  | 59 => ⟨S8x8192x128, .f32⟩
  | 60 => ⟨S8x8192x128, .f32⟩
  | 61 => ⟨S8x8192x128, .f32⟩
  | 62 => ⟨S8x8192x128, .f32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .f32⟩
  | 70 => ⟨S1x8192x1, .f32⟩
  | 71 => ⟨S8x8192x128, .f32⟩
  | 72 => ⟨S8x8192x128, .f32⟩
  | 73 => ⟨S8x8192x128, .f32⟩
  | 74 => ⟨S8x8192x128, .f32⟩
  | 75 => ⟨S8x8192x128, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .f32⟩
  | 83 => ⟨S1x8192x1, .f32⟩
  | 84 => ⟨S8x8192x128, .f32⟩
  | 85 => ⟨S8x8192x128, .f32⟩
  | 86 => ⟨S8x8192x128, .f32⟩
  | 87 => ⟨S8x8192x128, .f32⟩
  | 88 => ⟨S8x8192x128, .f32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S1x8192x1, .f32⟩
  | 97 => ⟨S8x8192x128, .f32⟩
  | 98 => ⟨S8x8192x128, .f32⟩
  | 99 => ⟨S8x8192x512, .f32⟩
  | 100 => ⟨S8x8192x512, .f32⟩
  | 101 => ⟨S8x8192x4x128, .f32⟩
  | 102 => ⟨S4x128x8x8192, .f32⟩
  | 103 => ⟨S8x8192x4x128, .f32⟩
  | 104 => ⟨S8x8192x512, .f32⟩
  | 105 => ⟨S1x1x512, .f32⟩
  | 106 => ⟨S8x8192x512, .f32⟩
  | 107 => ⟨S8x8192x512, .f32⟩
  | 108 => ⟨S8x8192x512, .f32⟩
  | 109 => ⟨S8x8192x4x128, .f32⟩
  | 110 => ⟨S8x4x8192x256, .f32⟩
  | 111 => ⟨S_, .f32⟩
  | 112 => ⟨S8x4x8192x256, .f32⟩
  | 113 => ⟨S8x4x8192x256, .f32⟩
  | 114 => ⟨S_, .f32⟩
  | 115 => ⟨S8x4x8192, .f32⟩
  | 116 => ⟨S_, .f32⟩
  | 117 => ⟨S8x4x8192, .f32⟩
  | 118 => ⟨S8x4x8192, .f32⟩
  | 119 => ⟨S8x4x8192x1, .f32⟩
  | 120 => ⟨S8x4x8192x256, .f32⟩
  | 121 => ⟨S8x4x8192x256, .f32⟩
  | 122 => ⟨S8x4x8192x256, .f32⟩
  | 123 => ⟨S_, .f32⟩
  | 124 => ⟨S8x4x8192, .f32⟩
  | 125 => ⟨S8x4x8192x1, .f32⟩
  | 126 => ⟨S8x4x8192x256, .f32⟩
  | 127 => ⟨S8x4x8192x256, .f32⟩
  | _ => ⟨S8x8192x1024, .f32⟩

abbrev hbmTy0_1 (i : Nat) : BufTy := match i % 128 with
  | 0 => ⟨S8x4x128x8192, .f32⟩
  | 1 => ⟨S8x8192x4x128, .f32⟩
  | 2 => ⟨S8x8192x512, .f32⟩
  | 3 => ⟨S8x8192x3072, .f32⟩
  | 4 => ⟨S8x8192x3072, .f32⟩
  | 5 => ⟨S_, .f32⟩
  | 6 => ⟨S8x8192x3072, .f32⟩
  | 7 => ⟨S8x8192x3072, .f32⟩
  | 8 => ⟨S_, .f32⟩
  | 9 => ⟨S8x8192x3072, .f32⟩
  | 10 => ⟨S8x8192x3072, .f32⟩
  | 11 => ⟨S8x8192x1024, .f32⟩
  | 12 => ⟨S8x8192x1024, .f32⟩
  | 13 => ⟨S8x8192x1024, .f32⟩
  | 14 => ⟨S8x8192x512, .f32⟩
  | 15 => ⟨S8x8192x1024, .f32⟩
  | 16 => ⟨S8x8192x1024, .f32⟩
  | 17 => ⟨S8x8192x1024, .f32⟩
  | 18 => ⟨S8x8192x1024, .f32⟩
  | 19 => ⟨S8x8192x1024, .f32⟩
  | 20 => ⟨S8x8192x1024, .f32⟩
  | 21 => ⟨S8x8192x1024, .f32⟩
  | 22 => ⟨S8x8192x1024, .f32⟩
  | 23 => ⟨S8x8192x1024, .f32⟩
  | 24 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_call1_call0_cst : Ref sig .tc := ⟨.hbm, 36, rfl⟩
abbrev main_call1_call0_v0 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_15 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_16 : Ref sig .tc := ⟨.hbm, 133, rfl⟩
abbrev main_v98 : Ref sig .tc := ⟨.hbm, 134, rfl⟩
abbrev main_v99 : Ref sig .tc := ⟨.hbm, 135, rfl⟩
abbrev main_cst_17 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩

abbrev nD : Nat := 1
abbrev τ : Topo := Topo.v7x

variable {F : FTy → Type} [FloatOps F]
-- ==== Proj.lean ====
abbrev S16x64x1024 : Shape := ⟨3, ![16, 64, 1024]⟩
abbrev S1024 : Shape := ⟨1, ![1024]⟩
abbrev S1024x5160 : Shape := ⟨2, ![1024, 5160]⟩
abbrev S64 : Shape := ⟨1, ![64]⟩
abbrev S32 : Shape := ⟨1, ![32]⟩
abbrev S128 : Shape := ⟨1, ![128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S1x128 : Shape := ⟨2, ![1, 128]⟩
abbrev S128x128 : Shape := ⟨2, ![128, 128]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x8 : Shape := ⟨2, ![1024, 8]⟩
abbrev S1024x3072 : Shape := ⟨2, ![1024, 3072]⟩
abbrev S1024x88 : Shape := ⟨2, ![1024, 88]⟩
abbrev S1024x2176 : Shape := ⟨2, ![1024, 2176]⟩
abbrev S1x64 : Shape := ⟨2, ![1, 64]⟩
abbrev S8x64 : Shape := ⟨2, ![8, 64]⟩
abbrev S2x64 : Shape := ⟨2, ![2, 64]⟩
abbrev S96 : Shape := ⟨1, ![96]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S1x64x4x32 : Shape := ⟨4, ![1, 64, 4, 32]⟩
abbrev S64x128 : Shape := ⟨2, ![64, 128]⟩
abbrev S16 : Shape := ⟨1, ![16]⟩
abbrev S1x16 : Shape := ⟨2, ![1, 16]⟩
abbrev S64x16 : Shape := ⟨2, ![64, 16]⟩
abbrev S1x64x1x16 : Shape := ⟨4, ![1, 64, 1, 16]⟩
abbrev S1x64x8x16 : Shape := ⟨4, ![1, 64, 8, 16]⟩
abbrev S1024x1024 : Shape := ⟨2, ![1024, 1024]⟩
abbrev S1x1024 : Shape := ⟨2, ![1, 1024]⟩
abbrev S1024x2x64 : Shape := ⟨3, ![1024, 2, 64]⟩
abbrev S64x1024 : Shape := ⟨2, ![64, 1024]⟩
abbrev S64x512 : Shape := ⟨2, ![64, 512]⟩
abbrev S64x2x64 : Shape := ⟨3, ![64, 2, 64]⟩
abbrev S64x256 : Shape := ⟨2, ![64, 256]⟩
abbrev S64x2176 : Shape := ⟨2, ![64, 2176]⟩
abbrev S64x64 : Shape := ⟨2, ![64, 64]⟩
abbrev S64x1x64 : Shape := ⟨3, ![64, 1, 64]⟩

abbrev nBuf : Space → Nat
  | .hbm => 152
  | .vmem => 28
  | .smem => 0
  | _ => 0

abbrev hbmTy0_0 (i : Nat) : BufTy := match i % 128 with
  | 0 => ⟨S16x64x1024, .f32⟩
  | 1 => ⟨S1024, .f32⟩
  | 2 => ⟨S1024x5160, .f32⟩
  | 3 => ⟨S64, .f32⟩
  | 4 => ⟨S64, .f32⟩
  | 5 => ⟨S32, .f32⟩
  | 6 => ⟨S128, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S1x512, .i32⟩
  | 28 => ⟨S512x512, .i32⟩
  | 29 => ⟨S512x512, .i32⟩
  | 30 => ⟨S512x512, .i1⟩
  | 31 => ⟨S512x512, .bf16⟩
  | 32 => ⟨S128, .i32⟩
  | 33 => ⟨S_, .i32⟩
  | 34 => ⟨S_, .i32⟩
  | 35 => ⟨S128, .i32⟩
  | 36 => ⟨S128, .i32⟩
  | 37 => ⟨S128, .i32⟩
  | 38 => ⟨S_, .i32⟩
  | 39 => ⟨S128, .i32⟩
  | 40 => ⟨S128, .i1⟩
  | 41 => ⟨S128, .i32⟩
  | 42 => ⟨S128, .i32⟩
  | 43 => ⟨S_, .i32⟩
  | 44 => ⟨S128, .i32⟩
  | 45 => ⟨S128, .i1⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S1x128, .i32⟩
  | 53 => ⟨S128x128, .i32⟩
  | 54 => ⟨S128x128, .i32⟩
  | 55 => ⟨S128x128, .i1⟩
  | 56 => ⟨S128x1, .i32⟩
  | 57 => ⟨S_, .i32⟩
  | 58 => ⟨S128x1, .i32⟩
  | 59 => ⟨S128x1, .i1⟩
  | 60 => ⟨S128x128, .i1⟩
  | 61 => ⟨S128x128, .i1⟩
  | 62 => ⟨S1x128, .i32⟩
  | 63 => ⟨S_, .i32⟩
  | 64 => ⟨S1x128, .i32⟩
  | 65 => ⟨S1x128, .i1⟩
  | 66 => ⟨S128x128, .i1⟩
  | 67 => ⟨S128x128, .i1⟩
  | 68 => ⟨S128x128, .bf16⟩
  | 69 => ⟨S1024x512, .f32⟩
  | 70 => ⟨S1024x128, .f32⟩
  | 71 => ⟨S1024x128, .f32⟩
  | 72 => ⟨S1024x256, .f32⟩
  | 73 => ⟨S1024x32, .f32⟩
  | 74 => ⟨S1024x8, .f32⟩
  | 75 => ⟨S1024x512, .f32⟩
  | 76 => ⟨S1024x512, .f32⟩
  | 77 => ⟨S1024x3072, .f32⟩
  | 78 => ⟨S_, .f32⟩
  | 79 => ⟨S1024x88, .f32⟩
  | 80 => ⟨S1024x2176, .f32⟩
  | 81 => ⟨S1024x2176, .bf16⟩
  | 82 => ⟨S1x64, .f32⟩
  | 83 => ⟨S8x64, .f32⟩
  | 84 => ⟨S512, .f32⟩
  | 85 => ⟨S1x512, .f32⟩
  | 86 => ⟨S1x64, .f32⟩
  | 87 => ⟨S2x64, .f32⟩
  | 88 => ⟨S128, .f32⟩
  | 89 => ⟨S1x128, .f32⟩
  | 90 => ⟨S_, .f32⟩
  | 91 => ⟨S96, .f32⟩
  | 92 => ⟨S128, .f32⟩
  | 93 => ⟨S1x128, .f32⟩
  | 94 => ⟨S1x128, .f32⟩
  | 95 => ⟨S64, .i32⟩
  | 96 => ⟨S_, .i32⟩
  | 97 => ⟨S64, .i32⟩
  | 98 => ⟨S64, .i32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S64, .f32⟩
  | 108 => ⟨S64x1, .f32⟩
  | 109 => ⟨S1x32, .f32⟩
  | 110 => ⟨S64x32, .f32⟩
  | 111 => ⟨S64x32, .f32⟩
  | 112 => ⟨S64x32, .f32⟩
  | 113 => ⟨S64x32, .f32⟩
  | 114 => ⟨S1x64x1x32, .f32⟩
  | 115 => ⟨S1x64x4x32, .f32⟩
  | 116 => ⟨S64x128, .f32⟩
  | 117 => ⟨S64x32, .f32⟩
  | 118 => ⟨S1x64x1x32, .f32⟩
  | 119 => ⟨S1x64x4x32, .f32⟩
  | 120 => ⟨S64x128, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S16x64x1024, .f32⟩

abbrev hbmTy0_1 (i : Nat) : BufTy := match i % 128 with
  | 0 => ⟨S16, .f32⟩
  | 1 => ⟨S64, .f32⟩
  | 2 => ⟨S64x1, .f32⟩
  | 3 => ⟨S1x16, .f32⟩
  | 4 => ⟨S64x16, .f32⟩
  | 5 => ⟨S64x16, .f32⟩
  | 6 => ⟨S64x16, .f32⟩
  | 7 => ⟨S64x16, .f32⟩
  | 8 => ⟨S1x64x1x16, .f32⟩
  | 9 => ⟨S1x64x8x16, .f32⟩
  | 10 => ⟨S64x128, .f32⟩
  | 11 => ⟨S64x16, .f32⟩
  | 12 => ⟨S1x64x1x16, .f32⟩
  | 13 => ⟨S1x64x8x16, .f32⟩
  | 14 => ⟨S64x128, .f32⟩
  | 15 => ⟨S1024x1024, .f32⟩
  | 16 => ⟨S1x1024, .f32⟩
  | 17 => ⟨S1024x512, .bf16⟩
  | 18 => ⟨S1024x2x64, .f32⟩
  | 19 => ⟨S1024x2x64, .f32⟩
  | 20 => ⟨S1024x256, .bf16⟩
  | 21 => ⟨S1024x128, .f32⟩
  | 22 => ⟨S1024x512, .f32⟩
  | 23 => ⟨S1024x512, .bf16⟩
  | _ => ⟨S16x64x1024, .f32⟩

abbrev hbmTy (i : Nat) : BufTy := match i / 128 with
  | 0 => hbmTy0_0 i
  | 1 => hbmTy0_1 i
  | _ => ⟨S16x64x1024, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S1x1024, .f32⟩
  | .local _ .vmem, ⟨3, _⟩ => ⟨S1024x2176, .bf16⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S1x512, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S512x512, .bf16⟩
  | .local _ .vmem, ⟨13, _⟩ => ⟨S128x128, .bf16⟩
  | .local _ .vmem, ⟨14, _⟩ => ⟨S64x512, .bf16⟩
  | .local _ .vmem, ⟨15, _⟩ => ⟨S64x512, .bf16⟩
  | .local _ .vmem, ⟨16, _⟩ => ⟨S64x2x64, .f32⟩
  | .local _ .vmem, ⟨17, _⟩ => ⟨S64x2x64, .f32⟩
  | .local _ .vmem, ⟨18, _⟩ => ⟨S64x2x64, .f32⟩
  | .local _ .vmem, ⟨19, _⟩ => ⟨S64x2x64, .f32⟩
  | .local _ .vmem, ⟨20, _⟩ => ⟨S64x256, .bf16⟩
  | .local _ .vmem, ⟨21, _⟩ => ⟨S64x256, .bf16⟩
  | .local _ .vmem, ⟨22, _⟩ => ⟨S64x128, .f32⟩
  | .local _ .vmem, ⟨23, _⟩ => ⟨S64x128, .f32⟩
  | .local _ .vmem, ⟨24, _⟩ => ⟨S64x512, .f32⟩
  | .local _ .vmem, ⟨25, _⟩ => ⟨S64x512, .f32⟩
  | .local _ .vmem, ⟨26, _⟩ => ⟨S64x512, .bf16⟩
  | .local _ .vmem, ⟨27, _⟩ => ⟨S64x512, .bf16⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_c_2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_3 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_4 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_5 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_7 : Ref sig .tc := ⟨.hbm, 123, rfl⟩
abbrev main_v75 : Ref sig .tc := ⟨.hbm, 124, rfl⟩
abbrev main_v76 : Ref sig .tc := ⟨.hbm, 125, rfl⟩
abbrev main_cst_8 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95_0 : Ref sig .tc := ⟨.hbm, 145, rfl⟩
abbrev main_v95_1 : Ref sig .tc := ⟨.hbm, 146, rfl⟩
abbrev main_v95_2 : Ref sig .tc := ⟨.hbm, 147, rfl⟩
abbrev main_v95_3 : Ref sig .tc := ⟨.hbm, 148, rfl⟩
abbrev main_v95_4 : Ref sig .tc := ⟨.hbm, 149, rfl⟩
abbrev main_v95_5 : Ref sig .tc := ⟨.hbm, 150, rfl⟩
abbrev main_v95_6 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S16x64x1024 : Shape := ⟨3, ![16, 64, 1024]⟩
abbrev S1024 : Shape := ⟨1, ![1024]⟩
abbrev S1024x5160 : Shape := ⟨2, ![1024, 5160]⟩
abbrev S64 : Shape := ⟨1, ![64]⟩
abbrev S32 : Shape := ⟨1, ![32]⟩
abbrev S128 : Shape := ⟨1, ![128]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x64x5160 : Shape := ⟨3, ![16, 64, 5160]⟩
abbrev S16x64x512 : Shape := ⟨3, ![16, 64, 512]⟩
abbrev S16x64x128 : Shape := ⟨3, ![16, 64, 128]⟩
abbrev S16x64x256 : Shape := ⟨3, ![16, 64, 256]⟩
abbrev S16x64x32 : Shape := ⟨3, ![16, 64, 32]⟩
abbrev S16x64x8 : Shape := ⟨3, ![16, 64, 8]⟩
abbrev S16x64x3072 : Shape := ⟨3, ![16, 64, 3072]⟩
abbrev S16x64x2x64 : Shape := ⟨4, ![16, 64, 2, 64]⟩
abbrev S16x64x2 : Shape := ⟨3, ![16, 64, 2]⟩
abbrev S16x64x2x1 : Shape := ⟨4, ![16, 64, 2, 1]⟩
abbrev S1x1x1x64 : Shape := ⟨4, ![1, 1, 1, 64]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S16x64x2x32 : Shape := ⟨4, ![16, 64, 2, 32]⟩
abbrev S1x1x32 : Shape := ⟨3, ![1, 1, 32]⟩
abbrev S16x64x1x32 : Shape := ⟨4, ![16, 64, 1, 32]⟩
abbrev S16 : Shape := ⟨1, ![16]⟩
abbrev S1x16 : Shape := ⟨2, ![1, 16]⟩
abbrev S64x16 : Shape := ⟨2, ![64, 16]⟩
abbrev S1x64x1x16 : Shape := ⟨4, ![1, 64, 1, 16]⟩
abbrev S16x64x1x16 : Shape := ⟨4, ![16, 64, 1, 16]⟩
abbrev S16x64x4x128 : Shape := ⟨4, ![16, 64, 4, 128]⟩
abbrev S16x64x4 : Shape := ⟨3, ![16, 64, 4]⟩
abbrev S16x64x4x1 : Shape := ⟨4, ![16, 64, 4, 1]⟩
abbrev S1x1x1x128 : Shape := ⟨4, ![1, 1, 1, 128]⟩
abbrev S16x64x88 : Shape := ⟨3, ![16, 64, 88]⟩
abbrev S1024x2x64 : Shape := ⟨3, ![1024, 2, 64]⟩
abbrev S1024x128 : Shape := ⟨2, ![1024, 128]⟩
abbrev S1024x512 : Shape := ⟨2, ![1024, 512]⟩

abbrev nBuf : Space → Nat
  | .hbm => 164
  | .vmem => 0
  | .smem => 0
  | _ => 0

abbrev hbmTy0_0 (i : Nat) : BufTy := match i % 128 with
  | 0 => ⟨S16x64x1024, .f32⟩
  | 1 => ⟨S1024, .f32⟩
  | 2 => ⟨S1024x5160, .f32⟩
  | 3 => ⟨S64, .f32⟩
  | 4 => ⟨S64, .f32⟩
  | 5 => ⟨S32, .f32⟩
  | 6 => ⟨S128, .f32⟩
  | 7 => ⟨S64, .i32⟩
  | 8 => ⟨S_, .i32⟩
  | 9 => ⟨S64, .i32⟩
  | 10 => ⟨S64, .i32⟩
  | 11 => ⟨S16x64x1024, .f32⟩
  | 12 => ⟨S_, .f32⟩
  | 13 => ⟨S16x64, .f32⟩
  | 14 => ⟨S16x64x1, .f32⟩
  | 15 => ⟨S_, .f32⟩
  | 16 => ⟨S16x64x1, .f32⟩
  | 17 => ⟨S16x64x1, .f32⟩
  | 18 => ⟨S_, .f32⟩
  | 19 => ⟨S16x64x1, .f32⟩
  | 20 => ⟨S16x64x1, .f32⟩
  | 21 => ⟨S16x64x1, .f32⟩
  | 22 => ⟨S16x64x1024, .f32⟩
  | 23 => ⟨S16x64x1024, .f32⟩
  | 24 => ⟨S1x1x1024, .f32⟩
  | 25 => ⟨S16x64x1024, .f32⟩
  | 26 => ⟨S16x64x1024, .f32⟩
  | 27 => ⟨S16x64x5160, .f32⟩
  | 28 => ⟨S16x64x512, .f32⟩
  | 29 => ⟨S16x64x128, .f32⟩
  | 30 => ⟨S16x64x128, .f32⟩
  | 31 => ⟨S16x64x256, .f32⟩
  | 32 => ⟨S16x64x32, .f32⟩
  | 33 => ⟨S16x64x8, .f32⟩
  | 34 => ⟨S16x64x512, .f32⟩
  | 35 => ⟨S16x64x512, .f32⟩
  | 36 => ⟨S16x64x3072, .f32⟩
  | 37 => ⟨S16x64x2x64, .f32⟩
  | 38 => ⟨S16x64x2x64, .f32⟩
  | 39 => ⟨S_, .f32⟩
  | 40 => ⟨S16x64x2, .f32⟩
  | 41 => ⟨S16x64x2x1, .f32⟩
  | 42 => ⟨S_, .f32⟩
  | 43 => ⟨S16x64x2x1, .f32⟩
  | 44 => ⟨S16x64x2x1, .f32⟩
  | 45 => ⟨S_, .f32⟩
  | 46 => ⟨S16x64x2x1, .f32⟩
  | 47 => ⟨S16x64x2x1, .f32⟩
  | 48 => ⟨S16x64x2x1, .f32⟩
  | 49 => ⟨S16x64x2x64, .f32⟩
  | 50 => ⟨S16x64x2x64, .f32⟩
  | 51 => ⟨S1x1x1x64, .f32⟩
  | 52 => ⟨S16x64x2x64, .f32⟩
  | 53 => ⟨S16x64x2x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S64, .f32⟩
  | 63 => ⟨S64x1, .f32⟩
  | 64 => ⟨S1x32, .f32⟩
  | 65 => ⟨S64x32, .f32⟩
  | 66 => ⟨S64x32, .f32⟩
  | 67 => ⟨S64x32, .f32⟩
  | 68 => ⟨S64x32, .f32⟩
  | 69 => ⟨S1x64x1x32, .f32⟩
  | 70 => ⟨S64x32, .f32⟩
  | 71 => ⟨S1x64x1x32, .f32⟩
  | 72 => ⟨S16x64x2x32, .f32⟩
  | 73 => ⟨S16x64x2x32, .f32⟩
  | 74 => ⟨S16x64x2x32, .f32⟩
  | 75 => ⟨S16x64x2x32, .f32⟩
  | 76 => ⟨S16x64x2x32, .f32⟩
  | 77 => ⟨S16x64x2x32, .f32⟩
  | 78 => ⟨S16x64x2x32, .f32⟩
  | 79 => ⟨S16x64x2x32, .f32⟩
  | 80 => ⟨S16x64x2x32, .f32⟩
  | 81 => ⟨S16x64x2x32, .f32⟩
  | 82 => ⟨S16x64x2x32, .f32⟩
  | 83 => ⟨S16x64x2x32, .f32⟩
  | 84 => ⟨S16x64x2x64, .f32⟩
  | 85 => ⟨S16x64x2x64, .f32⟩
  | 86 => ⟨S16x64x32, .f32⟩
  | 87 => ⟨S_, .f32⟩
  | 88 => ⟨S16x64, .f32⟩
  | 89 => ⟨S16x64x1, .f32⟩
  | 90 => ⟨S_, .f32⟩
  | 91 => ⟨S16x64x1, .f32⟩
  | 92 => ⟨S16x64x1, .f32⟩
  | 93 => ⟨S_, .f32⟩
  | 94 => ⟨S16x64x1, .f32⟩
  | 95 => ⟨S16x64x1, .f32⟩
  | 96 => ⟨S16x64x1, .f32⟩
  | 97 => ⟨S16x64x32, .f32⟩
  | 98 => ⟨S16x64x32, .f32⟩
  | 99 => ⟨S1x1x32, .f32⟩
  | 100 => ⟨S16x64x32, .f32⟩
  | 101 => ⟨S16x64x32, .f32⟩
  | 102 => ⟨S16x64x1x32, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S64, .f32⟩
  | 112 => ⟨S64x1, .f32⟩
  | 113 => ⟨S1x16, .f32⟩
  | 114 => ⟨S64x16, .f32⟩
  | 115 => ⟨S64x16, .f32⟩
  | 116 => ⟨S64x16, .f32⟩
  | 117 => ⟨S64x16, .f32⟩
  | 118 => ⟨S1x64x1x16, .f32⟩
  | 119 => ⟨S64x16, .f32⟩
  | 120 => ⟨S1x64x1x16, .f32⟩
  | 121 => ⟨S16x64x1x16, .f32⟩
  | 122 => ⟨S16x64x1x16, .f32⟩
  | 123 => ⟨S16x64x1x16, .f32⟩
  | 124 => ⟨S16x64x1x16, .f32⟩
  | 125 => ⟨S16x64x1x16, .f32⟩
  | 126 => ⟨S16x64x1x16, .f32⟩
  | 127 => ⟨S16x64x1x16, .f32⟩
  | _ => ⟨S16x64x1024, .f32⟩

abbrev hbmTy0_1 (i : Nat) : BufTy := match i % 128 with
  | 0 => ⟨S16x64x1x16, .f32⟩
  | 1 => ⟨S16x64x1x16, .f32⟩
  | 2 => ⟨S16x64x1x16, .f32⟩
  | 3 => ⟨S16x64x1x16, .f32⟩
  | 4 => ⟨S16x64x1x16, .f32⟩
  | 5 => ⟨S16x64x1x32, .f32⟩
  | 6 => ⟨S16x64x32, .f32⟩
  | 7 => ⟨S_, .f32⟩
  | 8 => ⟨S16x64x8, .f32⟩
  | 9 => ⟨S16x64x8, .f32⟩
  | 10 => ⟨S16x64x4x128, .f32⟩
  | 11 => ⟨S16x64x4x128, .f32⟩
  | 12 => ⟨S_, .f32⟩
  | 13 => ⟨S16x64x4, .f32⟩
  | 14 => ⟨S16x64x4x1, .f32⟩
  | 15 => ⟨S_, .f32⟩
  | 16 => ⟨S16x64x4x1, .f32⟩
  | 17 => ⟨S16x64x4x1, .f32⟩
  | 18 => ⟨S_, .f32⟩
  | 19 => ⟨S16x64x4x1, .f32⟩
  | 20 => ⟨S16x64x4x1, .f32⟩
  | 21 => ⟨S16x64x4x1, .f32⟩
  | 22 => ⟨S16x64x4x128, .f32⟩
  | 23 => ⟨S16x64x4x128, .f32⟩
  | 24 => ⟨S1x1x1x128, .f32⟩
  | 25 => ⟨S16x64x4x128, .f32⟩
  | 26 => ⟨S16x64x4x128, .f32⟩
  | 27 => ⟨S_, .f32⟩
  | 28 => ⟨S16x64x88, .f32⟩
  | 29 => ⟨S16x64x128, .f32⟩
  | 30 => ⟨S1024x2x64, .f32⟩
  | 31 => ⟨S1024x2x64, .f32⟩
  | 32 => ⟨S1024x128, .f32⟩
  | 33 => ⟨S1024x512, .f32⟩
  | 34 => ⟨S1024x512, .f32⟩
  | 35 => ⟨S1024x512, .bf16⟩
  | _ => ⟨S16x64x1024, .f32⟩

abbrev hbmTy (i : Nat) : BufTy := match i / 128 with
  | 0 => hbmTy0_0 i
  | 1 => hbmTy0_1 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_cst_11 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_12 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_13 : Ref sig .tc := ⟨.hbm, 140, rfl⟩
abbrev main_v118 : Ref sig .tc := ⟨.hbm, 141, rfl⟩
abbrev main_v119 : Ref sig .tc := ⟨.hbm, 142, rfl⟩
abbrev main_cst_14 : Ref sig .tc := ⟨.hbm, 143, rfl⟩
abbrev main_v120 : Ref sig .tc := ⟨.hbm, 144, rfl⟩
abbrev main_v121 : Ref sig .tc := ⟨.hbm, 145, rfl⟩
abbrev main_cst_15 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_16 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩

abbrev nD : Nat := 1
abbrev τ : Topo := Topo.v7x

variable {F : FTy → Type} [FloatOps F]
-- ==== Proof.Val.MemKv.lean ====
/- The memory key/value call: its two result arrays, read block by block, are the plain reference's terms. -/
module

public import proofs.«01_k».proof.Defs
public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MemKvVal

section reference
open Cert.MemKvRefIdeal Cert.MemKvRefIdeal.Gen

/-- Entry `(r, j)` of the normalised memory rows times the key/value weights, the rows of all batches numbered through. -/
def kvR (X : FVec Ideal S8x256x1024 .f32) (G : FVec Ideal S1024 .f32) (W : FVec Ideal S1024x1024 .f32) (r : Fin 2048) (j : Fin 1024) : EReal :=
  ∑ k : Fin 1024, X (ix3 ⟨r.val / 256, by omega⟩ ⟨r.val % 256, by omega⟩ k) * Ideal.rsqrt (Ideal.div (∑ x : Fin 1024, X (ix3 ⟨r.val / 256, by omega⟩ ⟨r.val % 256, by omega⟩ x) * X (ix3 ⟨r.val / 256, by omega⟩ ⟨r.val % 256, by omega⟩ x)) (Ideal.ofBits .f32 0x44800000#32) + Ideal.ofBits .f32 0x358637BD#32) * G (ix1 k) * W (ix2 k j)

/-- The reference's projected memory rows, keys and values side by side. -/
def refKV (X : FVec Ideal S8x256x1024 .f32) (G : FVec Ideal S1024 .f32) (W : FVec Ideal S1024x1024 .f32) : FVec Ideal S8x256x1024 .f32 :=
  (Host.dotGeneral dot_S8x256x1024_S1024x1024_S8x256x1024_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) W)

/-- The reference's keys: the left half of the projection, normalised head by head. -/
def refK (KV : FVec Ideal S8x256x1024 .f32) (K : FVec Ideal S128 .f32) : FVec Ideal S2048x512 .f32 :=
  shapeCast S2048x512 (mulf (mulf (shapeCast S8x256x4x128 (extractStridedSlice S8x256x512 ![0, 0, 0] KV slices_S8x256x1024_S8x256x512_0_0_0) shapeCasts_S8x256x512_S8x256x4x128) (broadcastInDim S8x256x4x128 ![0, 1, 2, 3] bcast_S8x256x4x1_S8x256x4x128_0_1_2_3 (Host.rsqrt (addf (Host.divf (broadcastInDim S8x256x4x1 ![0, 1, 2] bcast_S8x256x4_S8x256x4x1_0_1_2 (Host.reduceAdd (mulf (shapeCast S8x256x4x128 (extractStridedSlice S8x256x512 ![0, 0, 0] KV slices_S8x256x1024_S8x256x512_0_0_0) shapeCasts_S8x256x512_S8x256x4x128) (shapeCast S8x256x4x128 (extractStridedSlice S8x256x512 ![0, 0, 0] KV slices_S8x256x1024_S8x256x512_0_0_0) shapeCasts_S8x256x512_S8x256x4x128)) (constant S_ .f32 0x00000000#32) reducesTo_S8x256x4x128_S8x256x4_d3 h_S_)) (broadcastInDim S8x256x4x1 ![] bcast_S_S8x256x4x1 (constant S_ .f32 0x43000000#32))) (broadcastInDim S8x256x4x1 ![] bcast_S_S8x256x4x1 (constant S_ .f32 0x358637BD#32)))))) (broadcastInDim S8x256x4x128 ![0, 1, 2, 3] bcast_S1x1x1x128_S8x256x4x128_0_1_2_3 (broadcastInDim S1x1x1x128 ![3] bcast_S128_S1x1x1x128_3 K))) shapeCasts_S8x256x4x128_S2048x512

/-- The reference's values: the right half of the projection. -/
def refV (KV : FVec Ideal S8x256x1024 .f32) : FVec Ideal S2048x512 .f32 :=
  shapeCast S2048x512 (extractStridedSlice S8x256x512 ![0, 0, 512] KV slices_S8x256x1024_S8x256x512_0_0_512) shapeCasts_S8x256x512_S2048x512

/-- The reference's projection, entry by entry. -/
theorem refKV_apply (X : FVec Ideal S8x256x1024 .f32) (G : FVec Ideal S1024 .f32) (W : FVec Ideal S1024x1024 .f32) (r : Fin 2048) (j : Fin 1024) :
    refKV X G W (ix3 ⟨r.val / 256, by omega⟩ ⟨r.val % 256, by omega⟩ j) = kvR X G W r j := by
  pointwise [refKV, kvR]

/-- The head's index of column `j`, at offset `d` in the head. -/
abbrev hd (j : Fin 512) (d : Fin 128) : Fin 1024 := ⟨j.val / 128 * 128 + d.val, by omega⟩

/-- The reference's keys, entry by entry, over the projection. -/
theorem refK_apply (X : FVec Ideal S8x256x1024 .f32) (G : FVec Ideal S1024 .f32) (W : FVec Ideal S1024x1024 .f32) (K : FVec Ideal S128 .f32) (r : Fin 2048) (j : Fin 512) :
    refK (refKV X G W) K (ix2 r j) = kvR X G W r ⟨j.val, by omega⟩
      * Ideal.rsqrt (Ideal.div (∑ d : Fin 128, kvR X G W r (hd j d) * kvR X G W r (hd j d)) (Ideal.ofBits .f32 0x43000000#32) + Ideal.ofBits .f32 0x358637BD#32)
      * K (ix1 ⟨j.val % 128, by omega⟩) := by
  simp only [← refKV_apply]
  generalize refKV X G W = KV
  pointwise [refK]

/-- The reference's values, entry by entry, over the projection. -/
theorem refV_apply (X : FVec Ideal S8x256x1024 .f32) (G : FVec Ideal S1024 .f32) (W : FVec Ideal S1024x1024 .f32) (r : Fin 2048) (j : Fin 512) :
    refV (refKV X G W) (ix2 r j) = kvR X G W r ⟨512 + j.val, by omega⟩ := by
  simp only [← refKV_apply]
  generalize refKV X G W = KV
  pointwise [refV]

end reference

open Cert.MemKvIdeal Cert.MemKvIdeal.Gen

/-- The index maps of the call's windows: the memory blocks move with the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0])

/-- The kernel's projection of one block of memory rows is the reference's, at the block's rows. -/
theorem pay1_apply (m : (ℓ : Loc nD τ sig) → Buf (Elt Ideal) ℓ) (c : Dev nD) (t : Fin cfg0.N) (y : Fin 256) (j : Fin 1024) (r : Fin 2048) (hr : r.val = t.val * 256 + y.val) :
    k0_pay1 (iblk m c 0 t) (iblk m c 1 t) (iblk m c 2 t) (ix2 y j)
      = kvR (m (c.tc.loc main_arg0)) (m (c.tc.loc main_arg1)) (m (c.tc.loc main_arg2)) r j := by
  pointwise [k0_pay1, kvR]
  blk_point [iblk, V, idx t]

/-- Each head's sum of squares in the kernel, over the projection as a variable. -/
theorem fam_apply (P0 : Vec Ideal S256x1024 .f32) (P1 : Vec Ideal S1x1024 .f32) (P2 : Vec Ideal S1024x1024 .bf16) (P3 : Vec Ideal S1x128 .f32) (h : Fin 4) (y : Fin 256) :
    Value.Fam4_1 P0 P1 P2 P3 h (ix1 y) = ∑ d : Fin 128, k0_pay1 P0 P1 P2 (ix2 y ⟨h.val * 128 + d.val, by omega⟩) * k0_pay1 P0 P1 P2 (ix2 y ⟨h.val * 128 + d.val, by omega⟩) := by
  unfold Value.Fam4_1
  generalize k0_pay1 P0 P1 P2 = Q
  match h with
  | ⟨0, _⟩ => pointwise
  | ⟨1, _⟩ => pointwise
  | ⟨2, _⟩ => pointwise
  | ⟨3, _⟩ => pointwise

set_option maxHeartbeats 1000000 in
/-- The keys' block after a point's body, entry by entry, over the projection of the block. -/
theorem out4_apply (P0 : Vec Ideal S256x1024 .f32) (P1 : Vec Ideal S1x1024 .f32) (P2 : Vec Ideal S1024x1024 .bf16) (P3 : Vec Ideal S1x128 .f32) (y : Fin 256) (j : Fin 512) :
    out0_4 P0 P1 P2 P3 (ix2 y j) = k0_pay1 P0 P1 P2 (ix2 y ⟨j.val, by omega⟩)
      * Ideal.rsqrt (Ideal.div (∑ d : Fin 128, k0_pay1 P0 P1 P2 (ix2 y (hd j d)) * k0_pay1 P0 P1 P2 (ix2 y (hd j d))) (Ideal.ofBits .f32 0x43000000#32) + Ideal.ofBits .f32 0x358637BD#32)
      * P3 (ix2 0 ⟨j.val % 128, by omega⟩) := by
  unfold out0_4
  have l0 : View.ld P0 r0_0 = P0 := View.ld_unit_zero (by funext a; fin_cases a <;> rfl) _ _
  have l1 : View.ld P1 r0_1 = P1 := View.ld_unit_zero (by funext a; fin_cases a <;> rfl) _ _
  have l2 : View.ld P2 r0_2 = P2 := View.ld_unit_zero (by funext a; fin_cases a <;> rfl) _ _
  have l3 : View.ld P3 r0_3 = P3 := View.ld_unit_zero (by funext a; fin_cases a <;> rfl) _ _
  unfold k0_pay10 k0_pay11
  rw [l0, l1, l2, l3]
  refine (Value.canon4_eq P0 P1 P2 P3 (ix2 y j)).trans ?_
  have e := fam_apply P0 P1 P2 P3 ⟨j.val / 128, by omega⟩ y
  have e0 : Value.ix4_0 (ix2 y j) = ix2 y ⟨j.val, by omega⟩ := by funext a; fin_cases a <;> rfl
  have e1 : Value.ix4_1 (ix2 y j) = ix1 y := by funext a; fin_cases a; rfl
  have e2 : Value.ix4_2 (ix2 y j) = ix2 0 ⟨j.val % 128, by omega⟩ := by funext a; fin_cases a <;> rfl
  have e3 : Value.sel4 (ix2 y j) = ⟨j.val / 128, by omega⟩ := rfl
  show FloatOps.mulf (FloatOps.mulf ((k0_pay1 P0 P1 P2) (Value.ix4_0 (ix2 y j))) (FloatOps.rsqrt (FloatOps.addf (FloatOps.divf ((Value.Fam4_1 P0 P1 P2 P3 (Value.sel4 (ix2 y j))) (Value.ix4_1 (ix2 y j))) (Scalar.ofBits .f32 0x43000000#32)) (Scalar.ofBits .f32 0x358637BD#32)))) (P3 (Value.ix4_2 (ix2 y j))) = _
  rw [e0, e1, e2, e3, e]
  rfl

/-- The values' block after a point's body, entry by entry. -/
theorem out5_apply (P0 : Vec Ideal S256x1024 .f32) (P1 : Vec Ideal S1x1024 .f32) (P2 : Vec Ideal S1024x1024 .bf16) (P3 : Vec Ideal S1x128 .f32) (y : Fin 256) (j : Fin 512) :
    out0_5 P0 P1 P2 P3 (ix2 y j) = k0_pay1 P0 P1 P2 (ix2 y ⟨512 + j.val, by omega⟩) := by
  unfold out0_5
  have l0 : View.ld P0 r0_0 = P0 := View.ld_unit_zero (by funext a; fin_cases a <;> rfl) _ _
  have l1 : View.ld P1 r0_1 = P1 := View.ld_unit_zero (by funext a; fin_cases a <;> rfl) _ _
  have l2 : View.ld P2 r0_2 = P2 := View.ld_unit_zero (by funext a; fin_cases a <;> rfl) _ _
  unfold k0_pay10
  rw [l0, l1, l2]
  refine (Value.canon5_eq P0 P1 P2 (ix2 y j)).trans ?_
  exact congrArg (k0_pay1 P0 P1 P2) (by funext a; fin_cases a <;> exact Fin.ext (by simp [ix2, Nat.add_comm]))

/-- The head normalisation's weights as the region finds them. -/
theorem weight_apply (m : (ℓ : Loc nD τ sig) → Buf (Elt Ideal) ℓ) (c : Dev nD) (t : Fin cfg0.N) (d : Fin 128) :
    iblk m c 3 t (ix2 0 d) = m (c.tc.loc main_arg3) (ix1 d) := by
  blk_simp [iblk]
  entry_read
  pointwise
  blk_ext [idx t]

/-- Where block `t` of the keys lies in the keys' array. -/
theorem emb4 (t : Fin cfg0.N) (y : Fin 256) (j : Fin 512) (r : Fin 2048) (hr : r.val = t.val * 256 + y.val) :
    ((cfg0.win 4).blk t).view.emb (ix2 y j) = ix2 r j := by
  blk_ext [iblk, V, idx t]

/-- Where block `t` of the values lies in the values' array. -/
theorem emb5 (t : Fin cfg0.N) (y : Fin 256) (j : Fin 512) (r : Fin 2048) (hr : r.val = t.val * 256 + y.val) :
    ((cfg0.win 5).blk t).view.emb (ix2 y j) = ix2 r j := by
  blk_ext [iblk, V, idx t]

/-- The keys' array after the run is the reference's. -/
theorem keys (m : (ℓ : Loc nD τ sig) → Buf (Elt Ideal) ℓ) (c : Dev nD) :
    (dats m 0 c).arrAt 4 cfg0.N = refK (refKV (m (c.tc.loc main_arg0)) (m (c.tc.loc main_arg1)) (m (c.tc.loc main_arg2))) (m (c.tc.loc main_arg3)) := by
  refine (dats m 0 c).arrAt_eq_of_covers 4 _ (by decide +kernel) fun t hf y => ?_
  rw [after0_4]
  idx_vars y
  have ht : t.val < 8 := t.isLt
  have hr : t.val * 256 + y0.val < 2048 := by omega
  rw [emb4 t y0 y1 ⟨t.val * 256 + y0.val, hr⟩ rfl, refK_apply, ← weight_apply m c t]
  simp only [← pay1_apply m c t y0 _ ⟨t.val * 256 + y0.val, hr⟩ rfl]
  exact out4_apply _ _ _ _ y0 y1

set_option maxHeartbeats 1000000 in
/-- The values' array after the run is the reference's. -/
theorem values (m : (ℓ : Loc nD τ sig) → Buf (Elt Ideal) ℓ) (c : Dev nD) :
    (dats m 0 c).arrAt 5 cfg0.N = refV (refKV (m (c.tc.loc main_arg0)) (m (c.tc.loc main_arg1)) (m (c.tc.loc main_arg2))) := by
  refine (dats m 0 c).arrAt_eq_of_covers 5 _ (by decide +kernel) fun t hf y => ?_
  rw [after0_5]
  idx_vars y
  have ht : t.val < 8 := t.isLt
  have hr : t.val * 256 + y0.val < 2048 := by omega
  rw [emb5 t y0 y1 ⟨t.val * 256 + y0.val, hr⟩ rfl, refV_apply]
  rw [← pay1_apply m c t y0 _ ⟨t.val * 256 + y0.val, hr⟩ rfl]
  exact out5_apply _ _ _ _ y0 y1

/-- The value claim of the memory key/value call: at the extended reals its results are the plain reference's. -/
theorem algebraic : Cert.algebraic_MemKvIdeal_MemKvRefIdeal := by
  pair_intro
  · run_from run_main m g
  · run_from Cert.MemKvRefIdeal.Value.run m' g'
    · exact (keys m c).symm
    · exact (values m c).symm

end Cert.MemKvVal

end
-- ==== Proof.Val.Ffn.lean ====
/- The gated feed-forward call: its result array, read block by block, is the plain reference's term. -/
module

public import proofs.«01_k».proof.Defs
public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnVal

open Cert.FfnIdeal Cert.FfnIdeal.Gen

/-- The index maps of the call's windows: the token blocks move with the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

set_option maxHeartbeats 4000000 in
/-- The value claim of the feed-forward call: at the extended reals its result is the plain reference's. -/
theorem algebraic : Cert.algebraic_FfnIdeal_FfnRefIdeal := by
  pair_intro
  · run_from run_main m g
  · run_from Cert.FfnRefIdeal.Value.run m' g'
    refine ((dats m 0 c).arrAt_eq_of_covers 5 _ (by decide +kernel) fun t hf y => ?_).symm
    blk_simp
    rw [after0_5]
    frame_out
    idx_vars y
    pointwise [k0_pay1, Ideal.logistic]
    blk_point [iblk, V, idx t]

end Cert.FfnVal

end
-- ==== Proof.Val.FfnS.lean ====
/- The gated feed-forward call of the later chunks: its result array, read block by block, is the plain reference's term. -/
module

public import proofs.«01_k».proof.Defs
public import proofs.«01_k».proof.Proof.Gen.FfnSIdeal.Value
public import proofs.«01_k».proof.Proof.Gen.FfnSRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnSVal

open Cert.FfnSIdeal Cert.FfnSIdeal.Gen

/-- The index maps of the call's windows: the token blocks move with the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

set_option maxHeartbeats 4000000 in
/-- The value claim of the later chunks' feed-forward call: at the extended reals its result is the plain reference's. -/
theorem algebraic : Cert.algebraic_FfnSIdeal_FfnSRefIdeal := by
  pair_intro
  · run_from run_main m g
  · run_from Cert.FfnSRefIdeal.Value.run m' g'
    refine ((dats m 0 c).arrAt_eq_of_covers 5 _ (by decide +kernel) fun t hf y => ?_).symm
    blk_simp
    rw [after0_5]
    frame_out
    idx_vars y
    pointwise [k0_pay1, Ideal.logistic]
    blk_point [iblk, V, idx t]

end Cert.FfnSVal

end
-- ==== Proof.Val.MergeBlk.lean ====
/- The merge call's operands as a grid point sees them: each block, entry by entry, in the arrays the call is given. -/
module

public import proofs.«01_k».proof.Defs
public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeVal
open Cert.MergeIdeal Cert.MergeIdeal.Gen

/-- The index maps of the moving windows: a batch's block of rows, its row block before, and its own memory. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, 32 * (t.val % 16) - 1, 0]
    ∧ win0_4.index t = ![t.val / 16, 0, 0] ∧ win0_5.index t = ![t.val / 16, t.val % 16, 0]
    ∧ win0_6.index t = ![t.val / 16, 0, 0, 0] ∧ win0_7.index t = ![t.val / 16, 0, 0, 0] ∧ win0_16.index t = ![t.val / 16, t.val % 16, 0]
    ∧ (grid0.coords t 1).val = t.val % 16 :=
  (by decide +kernel : ∀ t : Fin grid0.N, win0_0.index t = ![t.val / 16, t.val % 16, 0] ∧ win0_1.index t = ![t.val / 16, t.val % 16, 0]
    ∧ win0_2.index t = ![t.val / 16, t.val % 16, 0] ∧ win0_3.index t = ![t.val / 16, 32 * (t.val % 16) - 1, 0]
    ∧ win0_4.index t = ![t.val / 16, 0, 0] ∧ win0_5.index t = ![t.val / 16, t.val % 16, 0]
    ∧ win0_6.index t = ![t.val / 16, 0, 0, 0] ∧ win0_7.index t = ![t.val / 16, 0, 0, 0] ∧ win0_16.index t = ![t.val / 16, t.val % 16, 0]
    ∧ (grid0.coords t 1).val = t.val % 16)

/-- The index maps of the windows that stay. -/
theorem idx' : ∀ t : Fin cfg0.N, win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0, 0] ∧ win0_15.index t = ![0, 0] :=
  (by decide +kernel : ∀ t : Fin grid0.N, win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0, 0] ∧ win0_15.index t = ![0, 0])

variable (m : (ℓ : Loc nD τ sig) → Buf (Elt Ideal) ℓ) (c : Dev nD) (t : Fin cfg0.N)

/-- The input rows' block. -/
theorem blk0 (b : Fin 8) (hb : b.val = t.val / 16) (y : Fin 512) (r : Fin 8192) (hr : r.val = t.val % 16 * 512 + y.val) (k : Fin 1024) :
    iblk m c 0 t (ix3 0 y k) = m (c.tc.loc main_arg0) (ix3 b r k) := by
  blk_point [iblk, V, idx t]

/-- The local branch's block. -/
theorem blk1 (b : Fin 8) (hb : b.val = t.val / 16) (y : Fin 512) (r : Fin 8192) (hr : r.val = t.val % 16 * 512 + y.val) (k : Fin 512) :
    iblk m c 1 t (ix3 0 y k) = m (c.tc.loc main_arg1) (ix3 b r k) := by
  blk_point [iblk, V, idx t]

/-- The pooled stream's block. -/
theorem blk2 (b : Fin 8) (hb : b.val = t.val / 16) (y : Fin 512) (r : Fin 8192) (hr : r.val = t.val % 16 * 512 + y.val) (k : Fin 512) :
    iblk m c 2 t (ix3 0 y k) = m (c.tc.loc main_arg2) (ix3 b r k) := by
  blk_point [iblk, V, idx t]

/-- The sixteen rows before the block. -/
theorem blk3 (b : Fin 8) (hb : b.val = t.val / 16) (y : Fin 16) (r : Fin 8192) (hr : r.val = (32 * (t.val % 16) - 1) * 16 + y.val) (k : Fin 512) :
    iblk m c 3 t (ix3 0 y k) = m (c.tc.loc main_arg2) (ix3 b r k) := by
  blk_point [iblk, V, idx t]

/-- The memory queries' block. -/
theorem blk5 (b : Fin 8) (hb : b.val = t.val / 16) (y : Fin 512) (r : Fin 8192) (hr : r.val = t.val % 16 * 512 + y.val) (k : Fin 512) :
    iblk m c 5 t (ix3 0 y k) = m (c.tc.loc main_arg3) (ix3 b r k) := by
  blk_point [iblk, V, idx t]

/-- The rows before a batch's first token are zeros. -/
theorem blk4 (y : Fin 16) (k : Fin 512) : iblk m c 4 t (ix3 0 y k) = (0 : EReal) := by
  blk_simp [iblk]
  entry_read
  pointwise

/-- The memory keys' block, head first. -/
theorem blk6 (b : Fin 8) (hb : b.val = t.val / 16) (h : Fin 4) (d : Fin 128) (i : Fin 256) :
    iblk m c 6 t (ix4 0 h d i) = m (c.tc.loc main_arg4) (ix4 b i h d) := by
  blk_simp [iblk]
  entry_read
  pointwise
  blk_ext [idx t]

/-- The memory values' block, head first. -/
theorem blk7 (b : Fin 8) (hb : b.val = t.val / 16) (h : Fin 4) (d : Fin 128) (i : Fin 256) :
    iblk m c 7 t (ix4 0 h i d) = m (c.tc.loc main_arg5) (ix4 b i h d) := by
  blk_simp [iblk]
  entry_read
  pointwise
  blk_ext [idx t]

/-- The normalisation's weights. -/
theorem blk8 (k : Fin 1024) : iblk m c 8 t (ix2 0 k) = m (c.tc.loc main_arg6) (ix1 k) := by
  blk_simp [iblk]
  entry_read
  pointwise
  blk_ext [idx' t]

/-- The gates' weights. -/
theorem blk9 (k : Fin 1024) (j : Fin 3072) : iblk m c 9 t (ix2 k j) = m (c.tc.loc main_arg7) (ix2 k ⟨2088 + j.val, by omega⟩) := by
  blk_simp [iblk]
  entry_read
  pointwise
  blk_ext [idx' t]

/-- The local branch's weights. -/
theorem blk10 (k : Fin 512) (j : Fin 1024) : iblk m c 10 t (ix2 k j) = m (c.tc.loc main_arg8) (ix2 k j) := by
  blk_simp [iblk]
  entry_read
  pointwise
  blk_ext [idx' t]

/-- The pooled branch's weights. -/
theorem blk11 (k : Fin 512) (j : Fin 1024) : iblk m c 11 t (ix2 k j) = m (c.tc.loc main_arg9) (ix2 k j) := by
  blk_simp [iblk]
  entry_read
  pointwise
  blk_ext [idx' t]

/-- The memory branch's weights. -/
theorem blk12 (k : Fin 512) (j : Fin 1024) : iblk m c 12 t (ix2 k j) = m (c.tc.loc main_arg10) (ix2 k j) := by
  blk_simp [iblk]
  entry_read
  pointwise
  blk_ext [idx' t]

/-- The output's weights. -/
theorem blk13 (k : Fin 1024) (j : Fin 1024) : iblk m c 13 t (ix2 k j) = m (c.tc.loc main_arg11) (ix2 k j) := by
  blk_simp [iblk]
  entry_read
  pointwise
  blk_ext [idx' t]

/-- The pooled groups' weights. -/
theorem blk14 (g : Fin 4) (k e : Fin 128) : iblk m c 14 t (ix3 g k e) = m (c.tc.loc main_arg12) (ix3 g k e) := by
  blk_simp [iblk]
  entry_read
  pointwise
  blk_ext [idx' t]

/-- The pooled branch's scale. -/
theorem blk15 (k : Fin 512) : iblk m c 15 t (ix2 0 k) = m (c.tc.loc main_arg13) (ix1 k) := by
  blk_simp [iblk]
  entry_read
  pointwise
  blk_ext [idx' t]

/-- Where a point's block lies in the result. -/
theorem emb16 (b : Fin 8) (hb : b.val = t.val / 16) (y : Fin 512) (r : Fin 8192) (hr : r.val = t.val % 16 * 512 + y.val) (k : Fin 1024) :
    ((cfg0.win 16).blk t).view.emb (ix3 0 y k) = ix3 b r k := by
  blk_ext [iblk, V, idx t]

end Cert.MergeVal
end
-- ==== Proof.Val.MergeRef.lean ====
/- The merge call's plain reference, entry by entry: the gates, the pooled branch, the memory branch and their sum. -/
module

public import proofs.«01_k».proof.Defs
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeVal

/-- One entry of a normalised row. -/
def nrm (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- One gate: the logistic of the normalised row's product with a column of weights. -/
def gat (x g w : Fin 1024 → EReal) : EReal := Ideal.logistic (∑ k : Fin 1024, nrm x g k * w k)

/-- One scaled logit of the memory attention. -/
def lgt (q : Fin 128 → EReal) (mk : Fin 256 → Fin 128 → EReal) (i : Fin 256) : EReal :=
  (∑ d : Fin 128, q d * mk i d) * Ideal.ofBits .f32 0x3DB504F3#32

/-- The largest of a row of logits. -/
def top (f : Fin 256 → EReal) : EReal := Finset.fold max (Ideal.ofBits .f32 0xFF800000#32) f Finset.univ

/-- A logit's exponential over the row's largest. -/
def ex (f : Fin 256 → EReal) (i : Fin 256) : EReal := Ideal.exp (f i - top f)

/-- The softmax of a row of logits, against a column of values. -/
def att (f v : Fin 256 → EReal) : EReal := ∑ i : Fin 256, Ideal.div (ex f i) (∑ i' : Fin 256, ex f i') * v i

/-- The window's width of a column's group. -/
def wid (k : Fin 512) : ℕ := 2 ^ (k.val / 128 + 1)

/-- The number of tokens a window of width `w` holds, where `p` counts the tokens so far. -/
def cnt (w : ℕ) (p : BitVec 32) : EReal := FloatOps.sitofp (F := Ideal) .f32 (IntOp.minsi (BitVec.ofNat 32 w) p)

/-- A maximum over the last of four axes. -/
theorem hostMax_last {n0 n1 n2 n3 : ℕ} {u : Shape} (L : FVec Ideal ⟨4, ![n0, n1, n2, n3]⟩ .f32) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) L init h hu (ix3 a b c)
      = Finset.fold max (init (Shape.Idx.first hu)) (fun k : Fin n3 => L (ix4 a b c k)) Finset.univ := by
  rw [Host.reduce_eq_fold, h.fold_fiber_r4_a3]
  rfl

section cumulative

/-- A fold of additions is the initial value plus the sum. -/
theorem foldl_add_eq {α : Type*} (g : α → EReal) (l : List α) (v : EReal) : l.foldl (fun r n => r + g n) v = v + (l.map g).sum := by
  induction l generalizing v with
  | nil => simp
  | cons a l ih => simp [ih, add_assoc]

end cumulative

section reference
open Cert.MergeRefIdeal Cert.MergeRefIdeal.Gen

/-- The reference's gates. -/
def rGate (A0 : FVec Ideal S8x8192x1024 .f32) (A6 : FVec Ideal S1024 .f32) (A7 : FVec Ideal S1024x5160 .f32) : FVec Ideal S8x8192x3072 .f32 :=
  (Host.divf (broadcastInDim S8x8192x3072 ![] bcast_S_S8x8192x3072 (constant S_ .f32 0x3F800000#32)) (addf (broadcastInDim S8x8192x3072 ![] bcast_S_S8x8192x3072 (constant S_ .f32 0x3F800000#32)) (Host.exp (Host.negf (extractStridedSlice S8x8192x3072 ![0, 0, 2088] (Host.dotGeneral dot_S8x8192x1024_S1024x5160_S8x8192x5160_2_0_01_1_n_n none (mulf (mulf A0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf A0 A0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 A6))) A7) slices_S8x8192x5160_S8x8192x3072_0_0_2088)))))

/-- The pooled stream after fifteen rows of zeros. -/
def rPad (A2 : FVec Ideal S8x8192x512 .f32) : FVec Ideal S8x8207x512 .f32 :=
  (pad S8x8207x512 ![0, 15, 0] ![0, 0, 0] ![0, 0, 0] A2 (sitofp .f32 (constantI S_ 32 0#32)) pads_S8x8192x512_S8x8207x512_000_1500_000 h_S_)

/-- Its running sum, starting with zero. -/
def rCum (A2 : FVec Ideal S8x8192x512 .f32) : FVec Ideal S8x8208x512 .f32 :=
  (concatenate S8x8208x512 1 [⟨S8x1x512, (broadcastInDim S8x1x512 ![] bcast_S_S8x1x512 (constant S_ .f32 0x00000000#32))⟩, ⟨S8x8207x512, (Host.reduceWindowAdd ![1, 8207, 1] ![1, 1, 1] ![0, 8206, 0] ![0, 0, 0] (rPad A2) (broadcastInDim S_ ![] bcast_S_S_ (constant S_ .f32 0x00000000#32)) reduceWindows_S8x8207x512_S8x8207x512_w1s1p0_0_w8207s1p8206_0_w1s1p0_0 h_S_)⟩] concatenates_S8x1x512_S8x8207x512_S8x8208x512_d1)

/-- The number of tokens up to and with each one. -/
def rPos : IVec S8192 32 :=
  (addi (addi (broadcastInDim S8192 ![] bcast_S_S8192 (constantI S_ 32 0#32)) (iotaInDim S8192 32 0)) (broadcastInDim S8192 ![] bcast_S_S8192 (constantI S_ 32 1#32)))

/-- The window means of the four groups, over the running sum. -/
def rMean (R0 : FVec Ideal S8x8208x512 .f32) (R3 : IVec S8192 32) : FVec Ideal S8x8192x512 .f32 :=
  ((concatenate S8x8192x512 2 [⟨S8x8192x128, ((Host.divf (subf (extractStridedSlice S8x8192x128 ![0, 16, 0] R0 slices_S8x8208x512_S8x8192x128_0_16_0) (extractStridedSlice S8x8192x128 ![0, 14, 0] R0 slices_S8x8208x512_S8x8192x128_0_14_0)) (broadcastInDim S8x8192x128 ![0, 1, 2] bcast_S1x8192x1_S8x8192x128_0_1_2 (broadcastInDim S1x8192x1 ![1] bcast_S8192_S1x8192x1_1 (sitofp .f32 (minsi (broadcastInDim S8192 ![] bcast_S_S8192 (constantI S_ 32 2#32)) R3))))))⟩, ⟨S8x8192x128, ((Host.divf (subf (extractStridedSlice S8x8192x128 ![0, 16, 128] R0 slices_S8x8208x512_S8x8192x128_0_16_128) (extractStridedSlice S8x8192x128 ![0, 12, 128] R0 slices_S8x8208x512_S8x8192x128_0_12_128)) (broadcastInDim S8x8192x128 ![0, 1, 2] bcast_S1x8192x1_S8x8192x128_0_1_2 (broadcastInDim S1x8192x1 ![1] bcast_S8192_S1x8192x1_1 (sitofp .f32 (minsi (broadcastInDim S8192 ![] bcast_S_S8192 (constantI S_ 32 4#32)) R3))))))⟩, ⟨S8x8192x128, ((Host.divf (subf (extractStridedSlice S8x8192x128 ![0, 16, 256] R0 slices_S8x8208x512_S8x8192x128_0_16_256) (extractStridedSlice S8x8192x128 ![0, 8, 256] R0 slices_S8x8208x512_S8x8192x128_0_8_256)) (broadcastInDim S8x8192x128 ![0, 1, 2] bcast_S1x8192x1_S8x8192x128_0_1_2 (broadcastInDim S1x8192x1 ![1] bcast_S8192_S1x8192x1_1 (sitofp .f32 (minsi (broadcastInDim S8192 ![] bcast_S_S8192 (constantI S_ 32 8#32)) R3))))))⟩, ⟨S8x8192x128, ((Host.divf (subf (extractStridedSlice S8x8192x128 ![0, 16, 384] R0 slices_S8x8208x512_S8x8192x128_0_16_384) (extractStridedSlice S8x8192x128 ![0, 0, 384] R0 slices_S8x8208x512_S8x8192x128_0_0_384)) (broadcastInDim S8x8192x128 ![0, 1, 2] bcast_S1x8192x1_S8x8192x128_0_1_2 (broadcastInDim S1x8192x1 ![1] bcast_S8192_S1x8192x1_1 (sitofp .f32 (minsi (broadcastInDim S8192 ![] bcast_S_S8192 (constantI S_ 32 16#32)) R3))))))⟩] concatenates_S8x8192x128_S8x8192x128_S8x8192x128_S8x8192x128_S8x8192x512_d2))

/-- The pooled branch, over the window means. -/
def rPool (M : FVec Ideal S8x8192x512 .f32) (A2 : FVec Ideal S8x8192x512 .f32) (A12 : FVec Ideal S4x128x128 .f32) (A13 : FVec Ideal S512 .f32) : FVec Ideal S8x8192x512 .f32 :=
  (mulf (shapeCast _ (transpose S8x8192x4x128 [2, 3, 0, 1] (Host.dotGeneral dot_S4x128x128_S8x8192x4x128_S4x128x8x8192_1_3_2_01_0_2 none A12 (shapeCast _ (subf M (extractStridedSlice S8x8192x512 ![0, 15, 0] (rPad A2) slices_S8x8207x512_S8x8192x512_0_15_0)) shapeCasts_S8x8192x512_S8x8192x4x128)) transposes_S4x128x8x8192_S8x8192x4x128_2_3_0_1) shapeCasts_S8x8192x4x128_S8x8192x512) (broadcastInDim S8x8192x512 ![0, 1, 2] bcast_S1x1x512_S8x8192x512_0_1_2 (broadcastInDim S1x1x512 ![2] bcast_S512_S1x1x512_2 A13)))

/-- The scaled logits of the memory attention. -/
def rLogit (A3 : FVec Ideal S8x8192x512 .bf16) (A4 : FVec Ideal S8x256x4x128 .f32) : FVec Ideal S8x4x8192x256 .f32 :=
  (mulf (Host.dotGeneral dot_S8x8192x4x128_S8x256x4x128_S8x4x8192x256_3_3_1_1_02_02 none (shapeCast _ (extf .f32 A3 bitsLt_bf16_f32) shapeCasts_S8x8192x512_S8x8192x4x128) A4) (broadcastInDim S8x4x8192x256 ![] bcast_S_S8x4x8192x256 (constant S_ .f32 0x3DB504F3#32)))

/-- The largest logit of each token. -/
def rTop (L : FVec Ideal S8x4x8192x256 .f32) : FVec Ideal S8x4x8192 .f32 :=
  Host.reduce FloatOps.maximumf L (constant S_ .f32 0xFF800000#32) reducesTo_S8x4x8192x256_S8x4x8192_d3 h_S_

/-- The exponentials of the logits over their maximum. -/
def rExp (L : FVec Ideal S8x4x8192x256 .f32) (T : FVec Ideal S8x4x8192 .f32) : FVec Ideal S8x4x8192x256 .f32 :=
  (Host.exp (subf L (broadcastInDim S8x4x8192x256 ![0, 1, 2, 3] bcast_S8x4x8192x1_S8x4x8192x256_0_1_2_3 (broadcastInDim S8x4x8192x1 ![0, 1, 2] bcast_S8x4x8192_S8x4x8192x1_0_1_2 (maximumf (broadcastInDim S8x4x8192 ![] bcast_S_S8x4x8192 (constant S_ .f32 0xFF800000#32)) T)))))

/-- The memory branch, over the exponentials. -/
def rMem (A5 : FVec Ideal S8x256x4x128 .f32) (R2 : FVec Ideal S8x4x8192x256 .f32) : FVec Ideal S8x8192x512 .f32 :=
  (shapeCast _ (transpose S8x8192x4x128 [0, 3, 1, 2] (Host.dotGeneral dot_S8x256x4x128_S8x4x8192x256_S8x4x128x8192_1_3_3_2_02_01 none A5 (Host.divf R2 (broadcastInDim S8x4x8192x256 ![0, 1, 2, 3] bcast_S8x4x8192x1_S8x4x8192x256_0_1_2_3 (broadcastInDim S8x4x8192x1 ![0, 1, 2] bcast_S8x4x8192_S8x4x8192x1_0_1_2 (Host.reduceAdd R2 (constant S_ .f32 0x00000000#32) reducesTo_S8x4x8192x256_S8x4x8192_d3 h_S_))))) transposes_S8x4x128x8192_S8x8192x4x128_0_3_1_2) shapeCasts_S8x8192x4x128_S8x8192x512)

/-- The gated sum of the three branches, projected and added to the input. -/
def rOut (A0 : FVec Ideal S8x8192x1024 .f32) (R1 : FVec Ideal S8x8192x3072 .f32) (A1 : FVec Ideal S8x8192x512 .bf16) (B M : FVec Ideal S8x8192x512 .f32)
    (A8 A9 A10 : FVec Ideal S512x1024 .f32) (A11 : FVec Ideal S1024x1024 .f32) : FVec Ideal S8x8192x1024 .f32 :=
  addf A0 (Host.dotGeneral dot_S8x8192x1024_S1024x1024_S8x8192x1024_2_0_01_1_n_n none (addf (addf (mulf (extractStridedSlice S8x8192x1024 ![0, 0, 0] R1 slices_S8x8192x3072_S8x8192x1024_0_0_0) (Host.dotGeneral dot_S8x8192x512_S512x1024_S8x8192x1024_2_0_01_1_n_n none (extf .f32 A1 bitsLt_bf16_f32) A8)) (mulf (extractStridedSlice S8x8192x1024 ![0, 0, 1024] R1 slices_S8x8192x3072_S8x8192x1024_0_0_1024) (Host.dotGeneral dot_S8x8192x512_S512x1024_S8x8192x1024_2_0_01_1_n_n none B A9))) (mulf (extractStridedSlice S8x8192x1024 ![0, 0, 2048] R1 slices_S8x8192x3072_S8x8192x1024_0_0_2048) (Host.dotGeneral dot_S8x8192x512_S512x1024_S8x8192x1024_2_0_01_1_n_n none M A10))) A11)

/-- The reference's result is these pieces put together. -/
theorem ref_eq (m : (ℓ : Loc nD τ sig) → Buf (Elt Ideal) ℓ) (c : Dev nD) :
    Cert.MergeRefIdeal.Value.res_main_v115 m c
      = rOut (m (c.tc.loc main_arg0)) (rGate (m (c.tc.loc main_arg0)) (m (c.tc.loc main_arg6)) (m (c.tc.loc main_arg7))) (m (c.tc.loc main_arg1))
          (rPool (rMean (rCum (m (c.tc.loc main_arg2))) rPos) (m (c.tc.loc main_arg2)) (m (c.tc.loc main_arg12)) (m (c.tc.loc main_arg13)))
          (rMem (m (c.tc.loc main_arg5)) (rExp (rLogit (m (c.tc.loc main_arg3)) (m (c.tc.loc main_arg4))) (rTop (rLogit (m (c.tc.loc main_arg3)) (m (c.tc.loc main_arg4))))))
          (m (c.tc.loc main_arg8)) (m (c.tc.loc main_arg9)) (m (c.tc.loc main_arg10)) (m (c.tc.loc main_arg11)) := rfl

/-- A gate of the reference. -/
theorem rGate_apply (A0 : FVec Ideal S8x8192x1024 .f32) (A6 : FVec Ideal S1024 .f32) (A7 : FVec Ideal S1024x5160 .f32) (b : Fin 8) (t : Fin 8192) (j : Fin 3072) :
    rGate A0 A6 A7 (ix3 b t j) = gat (fun k => A0 (ix3 b t k)) (fun k => A6 (ix1 k)) (fun k => A7 (ix2 k ⟨2088 + j.val, by omega⟩)) := by
  pointwise [rGate, gat, nrm, Ideal.logistic]

/-- A scaled logit of the reference. -/
theorem rLogit_apply (A3 : FVec Ideal S8x8192x512 .bf16) (A4 : FVec Ideal S8x256x4x128 .f32) (b : Fin 8) (h : Fin 4) (t : Fin 8192) (i : Fin 256) :
    rLogit A3 A4 (ix4 b h t i) = lgt (fun d => A3 (ix3 b t ⟨h.val * 128 + d.val, by omega⟩)) (fun i d => A4 (ix4 b i h d)) i := by
  pointwise [rLogit, lgt]

/-- The reference's largest logit. -/
theorem rTop_apply (L : FVec Ideal S8x4x8192x256 .f32) (b : Fin 8) (h : Fin 4) (t : Fin 8192) :
    rTop L (ix3 b h t) = top (fun i => L (ix4 b h t i)) :=
  hostMax_last L _ _ _ b h t

/-- An exponential of the reference, over the largest logit as a variable. -/
theorem rExp_apply' (L : FVec Ideal S8x4x8192x256 .f32) (T : FVec Ideal S8x4x8192 .f32) (b : Fin 8) (h : Fin 4) (t : Fin 8192) (i : Fin 256) :
    rExp L T (ix4 b h t i) = Ideal.exp (L (ix4 b h t i) - max (Ideal.ofBits .f32 0xFF800000#32) (T (ix3 b h t))) := by
  pointwise [rExp]

/-- An exponential of the reference. -/
theorem rExp_apply (L : FVec Ideal S8x4x8192x256 .f32) (b : Fin 8) (h : Fin 4) (t : Fin 8192) (i : Fin 256) :
    rExp L (rTop L) (ix4 b h t i) = ex (fun i => L (ix4 b h t i)) i := by
  rw [rExp_apply', rTop_apply, ex, max_eq_right]
  exact (Finset.le_fold_max _).2 (.inl le_rfl)

/-- The reference's memory branch, over the exponentials. -/
theorem rMem_apply (A5 : FVec Ideal S8x256x4x128 .f32) (E : FVec Ideal S8x4x8192x256 .f32) (b : Fin 8) (t : Fin 8192) (k : Fin 512) :
    rMem A5 E (ix3 b t k) = ∑ i : Fin 256, A5 (ix4 b i ⟨k.val / 128, by omega⟩ ⟨k.val % 128, by omega⟩) * Ideal.div (E (ix4 b ⟨k.val / 128, by omega⟩ t i)) (∑ i' : Fin 256, E (ix4 b ⟨k.val / 128, by omega⟩ t i')) := by
  pointwise [rMem]

/-- The reference's pooled branch, over the window means. -/
theorem rPool_apply (M : FVec Ideal S8x8192x512 .f32) (A2 : FVec Ideal S8x8192x512 .f32) (A12 : FVec Ideal S4x128x128 .f32) (A13 : FVec Ideal S512 .f32) (b : Fin 8) (t : Fin 8192) (k : Fin 512) :
    rPool M A2 A12 A13 (ix3 b t k) = (∑ d : Fin 128, (M (ix3 b t ⟨k.val / 128 * 128 + d.val, by omega⟩) - A2 (ix3 b t ⟨k.val / 128 * 128 + d.val, by omega⟩)) * A12 (ix3 ⟨k.val / 128, by omega⟩ d ⟨k.val % 128, by omega⟩)) * A13 (ix1 k) := by
  pointwise [rPool, rPad]
  congr 1
  refine Finset.sum_congr rfl fun d _ => ?_
  rw [dif_pos (by omega), mul_comm]

/-- The column `k` of a batch's pooled stream after its fifteen zeros. -/
def str (A2 : FVec Ideal S8x8192x512 .f32) (b : Fin 8) (k : Fin 512) (i : ℕ) : EReal :=
  if h : 15 ≤ i ∧ i - 15 < 8192 then A2 (ix3 b ⟨i - 15, h.2⟩ k) else 0

/-- The padded stream, entry by entry. -/
theorem rPad_apply (A2 : FVec Ideal S8x8192x512 .f32) (b : Fin 8) (t : Fin 8207) (k : Fin 512) :
    rPad A2 (ix3 b t k) = str A2 b k t.val := by
  have z : (FloatOps.sitofp (F := Ideal) FTy.f32 0#32 : EReal) = 0 := by
    show (((0#32 : BitVec 32).toInt : ℝ) : EReal) = 0
    simp
  pointwise [rPad, str, z]

/-- A window mean of the reference, over the running sum. -/
theorem rMean_apply (C : FVec Ideal S8x8208x512 .f32) (R3 : IVec S8192 32) (b : Fin 8) (t : Fin 8192) (k : Fin 512) :
    rMean C R3 (ix3 b t k) = Ideal.div (C (ix3 b ⟨16 + t.val, by omega⟩ k) - C (ix3 b ⟨16 + t.val - wid k, by omega⟩ k)) (cnt (wid k) (R3 (ix1 t))) := by
  pointwise [rMean]
  have hk := k.isLt
  by_cases h0 : k.val < 128
  · rw [dif_pos h0]
    have e : wid k = 2 := by rw [wid, show k.val / 128 = 0 by omega]; rfl
    rw [show (⟨16 + t.val - wid k, by omega⟩ : Fin 8208) = ⟨14 + t.val, by omega⟩ from Fin.ext (by show 16 + t.val - wid k = 14 + t.val; omega), e]
    rfl
  by_cases h1 : k.val - 128 < 128
  · rw [dif_neg h0, dif_pos h1]
    have e : wid k = 4 := by rw [wid, show k.val / 128 = 1 by omega]; rfl
    rw [show (⟨16 + t.val - wid k, by omega⟩ : Fin 8208) = ⟨12 + t.val, by omega⟩ from Fin.ext (by show 16 + t.val - wid k = 12 + t.val; omega), show (⟨128 + (k.val - 128), by omega⟩ : Fin 512) = k from Fin.ext (by show 128 + (k.val - 128) = k.val; omega), e]
    rfl
  by_cases h2 : k.val - 128 - 128 < 128
  · rw [dif_neg h0, dif_neg h1, dif_pos h2]
    have e : wid k = 8 := by rw [wid, show k.val / 128 = 2 by omega]; rfl
    rw [show (⟨16 + t.val - wid k, by omega⟩ : Fin 8208) = ⟨8 + t.val, by omega⟩ from Fin.ext (by show 16 + t.val - wid k = 8 + t.val; omega), show (⟨256 + (k.val - 128 - 128), by omega⟩ : Fin 512) = k from Fin.ext (by show 256 + (k.val - 128 - 128) = k.val; omega), e]
    rfl
  · rw [dif_neg h0, dif_neg h1, dif_neg h2]
    have e : wid k = 16 := by rw [wid, show k.val / 128 = 3 by omega]; rfl
    rw [show (⟨16 + t.val - wid k, by omega⟩ : Fin 8208) = ⟨t.val, by omega⟩ from Fin.ext (by show 16 + t.val - wid k = t.val; omega), show (⟨384 + (k.val - 128 - 128 - 128), by omega⟩ : Fin 512) = k from Fin.ext (by show 384 + (k.val - 128 - 128 - 128) = k.val; omega), e]
    rfl

/-- The tokens so far, in the reference. -/
theorem rPos_apply (t : Fin 8192) :
    rPos (ix1 t) = BitVec.ofNat 32 (t.val + 1) := by
  pointwise [rPos]
  show 0#32 + BitVec.ofNat 32 t.val + 1#32 = _
  rw [BitVec.zero_add, BitVec.ofNat_add]

/-- The reference's result, over its branches. -/
theorem rOut_apply (A0 : FVec Ideal S8x8192x1024 .f32) (R1 : FVec Ideal S8x8192x3072 .f32) (A1 : FVec Ideal S8x8192x512 .bf16) (B M : FVec Ideal S8x8192x512 .f32)
    (A8 A9 A10 : FVec Ideal S512x1024 .f32) (A11 : FVec Ideal S1024x1024 .f32) (b : Fin 8) (t : Fin 8192) (e : Fin 1024) :
    rOut A0 R1 A1 B M A8 A9 A10 A11 (ix3 b t e) = A0 (ix3 b t e) + ∑ j : Fin 1024,
      (R1 (ix3 b t ⟨j.val, by omega⟩) * (∑ k : Fin 512, A1 (ix3 b t k) * A8 (ix2 k j))
        + R1 (ix3 b t ⟨1024 + j.val, by omega⟩) * (∑ k : Fin 512, B (ix3 b t k) * A9 (ix2 k j))
        + R1 (ix3 b t ⟨2048 + j.val, by omega⟩) * (∑ k : Fin 512, M (ix3 b t k) * A10 (ix2 k j))) * A11 (ix2 j e) := by
  pointwise [rOut]

end reference

end Cert.MergeVal

end
-- ==== Proof.Val.MergeKer.lean ====
/- The merge call's kernel, entry by entry: what each value of a grid point's body holds, over its operands. -/
module

public import proofs.«01_k».proof.Proof.Gen.MergeIdeal.Value
public import proofs.«01_k».proof.Proof.Val.MergeRef
public import Idealize.ShloMosaic.Lib.Pipeline.ReadBack

@[expose] public section

set_option maxRecDepth 16384

noncomputable section

open Idealize.ShloMosaic Idealize.ShloMosaic.TcCoe Idealize.SL.Sem

namespace Cert.MergeVal
open Cert.MergeIdeal Cert.MergeIdeal.Gen

/-- The result's rows: the input rows, plus the gated branches against the output's weights. -/
theorem pay1_apply (v1 : FVec Ideal S512x1024 .f32) (v20 : FVec Ideal S512x3072 .f32) (v233 : FVec Ideal S512x512 .bf16) (v246 : FVec Ideal S512x1024 .f32) (v248 : Vec Ideal S512x1024 .bf16) (v254 : Vec Ideal S1024x1024 .bf16) (y : Fin 512) (e : Fin 1024) :
    k0_pay1 v1 v20 v233 v246 v248 v254 (ix3 0 y e) = v1 (ix2 y e) + ∑ j : Fin 1024, (v246 (ix2 y j) + v20 (ix2 y ⟨2048 + j.val, by omega⟩) * ∑ k : Fin 512, v233 (ix2 y k) * v248 (ix2 k j)) * v254 (ix2 j e) := by
  pointwise [k0_pay1]

/-- The input rows. -/
theorem pay2_apply (v0 : Vec Ideal S1x512x1024 .f32) (y : Fin 512) (e : Fin 1024) : k0_pay2 v0 (ix2 y e) = v0 (ix3 0 y e) := by
  pointwise [k0_pay2]

/-- The gates. -/
theorem pay3_apply (v0 : Vec Ideal S1x512x1024 .f32) (v2 : Vec Ideal S1x1024 .f32) (v17 : Vec Ideal S1024x3072 .bf16) (y : Fin 512) (j : Fin 3072) :
    k0_pay3 v0 v2 v17 (ix2 y j) = gat (fun k => v0 (ix3 0 y k)) (fun k => v2 (ix2 0 k)) (fun k => v17 (ix2 k j)) := by
  pointwise [k0_pay3, k0_pay2, Ideal.logistic, gat, nrm]

/-- The pooled stream's rows. -/
theorem pay4_apply (v0 : Vec Ideal S1x512x512 .f32) (y : Fin 512) (e : Fin 512) : k0_pay4 v0 (ix2 y e) = v0 (ix3 0 y e) := by
  pointwise [k0_pay4]

/-- The sixteen rows before: the first block's are those kept from before the batch. -/
theorem pay5_apply (i : grid0.Coords) (v24 v26 : Vec Ideal S1x16x512 .f32) (y : Fin 16) (e : Fin 512) :
    k0_pay5 i v24 v26 (ix2 y e) = Scalar.select (Scalar.cmpi .eq (BitVec.ofNat 32 (i 1).val) 0#32) (v24 (ix3 0 y e)) (v26 (ix3 0 y e)) := by
  pointwise [k0_pay5]

/-- The rows kept beside them. -/
theorem pay6_apply (v22 : FVec Ideal S512x512 .f32) (y e : Fin 512) : k0_pay6 v22 (ix2 y e) = v22 (ix2 y e) := by
  pointwise [k0_pay6]

/-- A row's position. -/
theorem pay7_apply (a : BitVec 32) (y : Fin 512) : k0_pay7 a (ix2 y 0) = IntOp.addi (Scalar.addi 0#32 (Scalar.muli a 512#32)) (BitVec.ofNat 32 y.val) := by
  pointwise [k0_pay7]

/-- The number of rows up to and with a row. -/
theorem pos_eq (T : ℕ) (y : Fin 512) : IntOp.addi (k0_pay7 (BitVec.ofNat 32 T) (ix2 y 0)) 1#32 = BitVec.ofNat 32 (T * 512 + y.val + 1) := by
  rw [pay7_apply]
  show 0#32 + BitVec.ofNat 32 T * 512#32 + BitVec.ofNat 32 y.val + 1#32 = _
  rw [BitVec.zero_add, BitVec.ofNat_add, BitVec.ofNat_add, BitVec.ofNat_mul]

/-- The first group's product: windows of two. -/
theorem pay8_apply (a : BitVec 32) (v22 : FVec Ideal S512x512 .f32) (v41 : Vec Ideal S512x128 .f32) (v53 : Vec Ideal S1x128x128 .bf16) (y : Fin 512) (e : Fin 128) :
    k0_pay8 a v22 v41 v53 (ix2 y e) = ∑ d : Fin 128, (Ideal.div (v22 (ix2 y ⟨d.val, by omega⟩) + v41 (ix2 y d)) (cnt 2 (IntOp.addi (k0_pay7 a (ix2 y 0)) 1#32)) - v22 (ix2 y ⟨d.val, by omega⟩)) * v53 (ix3 0 d e) := by
  unfold k0_pay8
  generalize k0_pay7 a = P
  pointwise [cnt]

/-- The second group's product: windows of four. -/
theorem pay10_apply (a : BitVec 32) (v22 : FVec Ideal S512x512 .f32) (v57 v59 v61 : Vec Ideal S512x128 .f32) (v73 : Vec Ideal S1x128x128 .bf16) (y : Fin 512) (e : Fin 128) :
    k0_pay10 (k0_pay9 a v22 v57 v59 v61) v73 (ix2 y e) = ∑ d : Fin 128, (Ideal.div (v22 (ix2 y ⟨128 + d.val, by omega⟩) + v57 (ix2 y d) + v59 (ix2 y d) + v61 (ix2 y d)) (cnt 4 (IntOp.addi (k0_pay7 a (ix2 y 0)) 1#32)) - v22 (ix2 y ⟨128 + d.val, by omega⟩)) * v73 (ix3 0 d e) := by
  unfold k0_pay10 k0_pay9
  generalize k0_pay7 a = P
  pointwise [cnt]

/-- The third group's product: windows of eight. -/
theorem pay11_apply (P : IVec S512x1 32) (v22 : FVec Ideal S512x512 .f32) (v77 v79 v81 v83 v85 v87 v89 : Vec Ideal S512x128 .f32) (v101 : Vec Ideal S1x128x128 .bf16) (y : Fin 512) (e : Fin 128) :
    k0_pay11 v22 P v77 v79 v81 v83 v85 v87 v89 v101 (ix2 y e) = ∑ d : Fin 128, (Ideal.div (v22 (ix2 y ⟨256 + d.val, by omega⟩) + v77 (ix2 y d) + v79 (ix2 y d) + v81 (ix2 y d) + v83 (ix2 y d) + v85 (ix2 y d) + v87 (ix2 y d) + v89 (ix2 y d)) (cnt 8 (IntOp.addi (P (ix2 y 0)) 1#32)) - v22 (ix2 y ⟨256 + d.val, by omega⟩)) * v101 (ix3 0 d e) := by
  pointwise [k0_pay11, cnt]

/-- The fourth group's window sum: sixteen rows. -/
theorem pay13_apply (v22 : FVec Ideal S512x512 .f32) (v105 v107 v109 v111 v113 v115 v117 v119 v121 v123 v125 v127 v129 v131 v133 : Vec Ideal S512x128 .f32) (y : Fin 512) (d : Fin 128) :
    k0_pay13 (k0_pay12 v22 v105) v107 v109 v111 v113 v115 v117 v119 v121 v123 v125 v127 v129 v131 v133 (ix2 y d) = v22 (ix2 y ⟨384 + d.val, by omega⟩) + v105 (ix2 y d) + v107 (ix2 y d) + v109 (ix2 y d) + v111 (ix2 y d) + v113 (ix2 y d) + v115 (ix2 y d) + v117 (ix2 y d) + v119 (ix2 y d) + v121 (ix2 y d) + v123 (ix2 y d) + v125 (ix2 y d) + v127 (ix2 y d) + v129 (ix2 y d) + v131 (ix2 y d) + v133 (ix2 y d) := by
  pointwise [k0_pay13, k0_pay12]

/-- The number of rows so far. -/
theorem pay14_apply (P : IVec S512x1 32) (y : Fin 512) : k0_pay14 P (ix2 y 0) = IntOp.addi (P (ix2 y 0)) 1#32 := by
  pointwise [k0_pay14]

/-- The four groups beside one another, scaled; the fourth's product, of windows of sixteen. -/
theorem pay15_apply (v22 : FVec Ideal S512x512 .f32) (v55 v75 v103 v134 : FVec Ideal S512x128 .f32) (v136 : IVec S512x1 32) (v145 : Vec Ideal S1x128x128 .bf16) (v149 : Vec Ideal S1x512 .f32) (y k : Fin 512) :
    k0_pay15 v22 v55 v75 v103 v134 v136 16#32 v145 v149 (ix2 y k) = (if h : k.val < 128 then v55 (ix2 y ⟨k.val, h⟩) else if h : k.val - 128 < 128 then v75 (ix2 y ⟨k.val - 128, h⟩)
      else if h : k.val - 128 - 128 < 128 then v103 (ix2 y ⟨k.val - 128 - 128, h⟩)
      else ∑ d : Fin 128, (Ideal.div (v134 (ix2 y d)) (cnt 16 (v136 (ix2 y 0))) - v22 (ix2 y ⟨384 + d.val, by omega⟩)) * v145 (ix3 0 d ⟨k.val - 128 - 128 - 128, by omega⟩)) * v149 (ix2 0 k) := by
  pointwise [k0_pay15, cnt]

/-- The memory queries' rows. -/
theorem pay16_apply (v154 : Vec Ideal S1x512x512 .bf16) (y e : Fin 512) : k0_pay16 v154 (ix2 y e) = v154 (ix3 0 y e) := by
  pointwise [k0_pay16]

/-- A row's logits with one head, over the head's queries and keys. -/
def lgt' (q : FVec Ideal S512x512 .bf16) (kt : Vec Ideal S1x1x128x256 .bf16) (h : ℕ) (hh : h < 4) (y : Fin 512) (i : Fin 256) : EReal :=
  (∑ d : Fin 128, q (ix2 y ⟨h * 128 + d.val, by omega⟩) * kt (ix4 0 0 d i)) * Ideal.ofBits .f32 0x3DB504F3#32

/-- The first head. -/
theorem pay17_apply (v154 : Vec Ideal S1x512x512 .bf16) (v157 : Vec Ideal S1x1x128x256 .bf16) (v172 : Vec Ideal S1x1x256x128 .bf16) (y : Fin 512) (e : Fin 128) :
    k0_pay17 v154 v157 v172 (ix2 y e) = att (lgt' (k0_pay16 v154) v157 0 (by omega) y) (fun i => v172 (ix4 0 0 i e)) := by
  unfold k0_pay17
  generalize k0_pay16 v154 = Q
  pointwise [att, ex, top, lgt']

/-- The second head. -/
theorem pay18_apply (v155 : FVec Ideal S512x512 .bf16) (v176 : Vec Ideal S1x1x128x256 .bf16) (v191 : Vec Ideal S1x1x256x128 .bf16) (y : Fin 512) (e : Fin 128) :
    k0_pay18 v155 v176 v191 (ix2 y e) = att (lgt' v155 v176 1 (by omega) y) (fun i => v191 (ix4 0 0 i e)) := by
  pointwise [k0_pay18, att, ex, top, lgt']

/-- The four heads beside one another. -/
theorem pay20_apply (v155 : FVec Ideal S512x512 .bf16) (v174 v193 : FVec Ideal S512x128 .f32) (v195 : Vec Ideal S1x1x128x256 .bf16) (v210 : Vec Ideal S1x1x256x128 .bf16) (v214 : Vec Ideal S1x1x128x256 .bf16) (v229 : Vec Ideal S1x1x256x128 .bf16) (y k : Fin 512) :
    k0_pay20 v155 v174 v193 (k0_pay19 v155 v195) v210 v214 v229 (ix2 y k) = if h : k.val < 128 then v174 (ix2 y ⟨k.val, h⟩) else if h : k.val - 128 < 128 then v193 (ix2 y ⟨k.val - 128, h⟩)
      else if h : k.val - 128 - 128 < 128 then att (lgt' v155 v195 2 (by omega) y) (fun i => v210 (ix4 0 0 i ⟨k.val - 128 - 128, h⟩))
      else att (lgt' v155 v214 3 (by omega) y) (fun i => v229 (ix4 0 0 i ⟨k.val - 128 - 128 - 128, by omega⟩)) := by
  pointwise [k0_pay20, k0_pay19, att, ex, top, lgt']

/-- The local and pooled branches, gated. -/
theorem pay21_apply (v20 : FVec Ideal S512x3072 .f32) (v153 : FVec Ideal S512x512 .bf16) (v235 : Vec Ideal S1x512x512 .bf16) (v237 : Vec Ideal S512x1024 .bf16) (v242 : Vec Ideal S512x1024 .bf16) (y : Fin 512) (j : Fin 1024) :
    k0_pay21 v20 v153 v235 v237 v242 (ix2 y j) = v20 (ix2 y ⟨j.val, by omega⟩) * (∑ k : Fin 512, v235 (ix3 0 y k) * v237 (ix2 k j)) + v20 (ix2 y ⟨1024 + j.val, by omega⟩) * ∑ k : Fin 512, v153 (ix2 y k) * v242 (ix2 k j) := by
  pointwise [k0_pay21]

/-- The rows a block's window sums reach: sixteen before it, then its own. -/
def ext (P5 : FVec Ideal S16x512 .f32) (P6 : FVec Ideal S512x512 .f32) : FVec Ideal S528x512 .f32 := fun x =>
  if h : (x 0).val < 16 then P5 (ix2 ⟨(x 0).val, h⟩ (x 1)) else P6 (ix2 ⟨(x 0).val - 16, by have : (x 0).val < 528 := (x 0).isLt; omega⟩ (x 1))

/-- What is read back of the rows beside one another, through any rectangle. -/
theorem read_ext {κ : Kind} {sp : Space} {sg : RefSig} (v : View sg κ sp S528x512 .f32) (P5 : FVec Ideal S16x512 .f32) (P6 : FVec Ideal S512x512 .f32) (r : Rect S528x512) :
    v.readCov (Val := Elt Ideal) [⟨Rect.unit ![16, 0] ![512, 512] inb_S528x512_S512x512_16_0, P6⟩, ⟨Rect.unit ![0, 0] ![16, 512] inb_S528x512_S16x512_0_0, P5⟩] r.toLoadRect
      = View.ld (Val := Elt Ideal) (ext P5 P6) r := by
  have hcov : ∀ y : S528x512.Idx, ∃ p ∈ ([⟨Rect.unit ![16, 0] ![512, 512] inb_S528x512_S512x512_16_0, P6⟩, ⟨Rect.unit ![0, 0] ![16, 512] inb_S528x512_S16x512_0_0, P5⟩] : List (View.Piece (Elt Ideal) S528x512 .f32)), y ∈ p.1.set := by
    intro y
    have h0 : (y 0).val < 528 := (y 0).isLt
    have h1 : (y 1).val < 512 := (y 1).isLt
    by_cases h : (y 0).val < 16
    · refine ⟨_, List.mem_cons_of_mem _ (List.mem_singleton_self _), (Rect.mem_set_unit (inb := inb_S528x512_S16x512_0_0)).2 fun a => ?_⟩
      match a with
      | ⟨0, _⟩ => exact ⟨Nat.zero_le _, by show (y 0).val < 0 + 16; omega⟩
      | ⟨1, _⟩ => exact ⟨Nat.zero_le _, by show (y 1).val < 0 + 512; omega⟩
    · refine ⟨_, List.mem_cons_self, (Rect.mem_set_unit (inb := inb_S528x512_S512x512_16_0)).2 fun a => ?_⟩
      match a with
      | ⟨0, _⟩ => exact ⟨by show 16 ≤ (y 0).val; omega, by show (y 0).val < 16 + 512; omega⟩
      | ⟨1, _⟩ => exact ⟨Nat.zero_le _, by show (y 1).val < 0 + 512; omega⟩
  rw [View.readCov_eq_canon_ld _ _ _ hcov]
  refine congrArg (fun X => View.ld X r) (funext fun y => View.canon_apply_of_pieces (ext P5 P6) _ (fun p hp x => ?_) y (hcov y))
  simp only [List.mem_cons, List.not_mem_nil, or_false] at hp
  rcases hp with rfl | rfl
  · have h0 : (x 0).val < 512 := (x 0).isLt
    show P6 x = ext P5 P6 _
    unfold ext
    rw [dif_neg (by show ¬ 16 + 1 * (x 0).val < 16; omega)]
    refine congrArg P6 (funext fun a => Fin.ext ?_)
    match a with
    | ⟨0, _⟩ =>
      show (x 0).val = 16 + 1 * (x 0).val - 16
      omega
    | ⟨1, _⟩ =>
      show (x 1).val = 0 + 1 * (x 1).val
      omega
  · have h0 : (x 0).val < 16 := (x 0).isLt
    show P5 x = ext P5 P6 _
    unfold ext
    rw [dif_pos (by show 0 + 1 * (x 0).val < 16; omega)]
    refine congrArg P5 (funext fun a => Fin.ext ?_)
    match a with
    | ⟨0, _⟩ =>
      show (x 0).val = 0 + 1 * (x 0).val
      omega
    | ⟨1, _⟩ =>
      show (x 1).val = 0 + 1 * (x 1).val
      omega

end Cert.MergeVal
end
-- ==== Proof.Val.MergeCum.lean ====
/- The reference's running sum, entry by entry, and the window sums its differences are. -/
module

public import proofs.«01_k».proof.Proof.Val.MergeRef

@[expose] public section

set_option maxRecDepth 16384

noncomputable section

open Idealize.ShloMosaic Idealize.ShloMosaic.TcCoe Idealize.SL.Sem

namespace Cert.MergeVal

/-- A window of all positions up to one, the earlier positions empty, sums the entries up to it. -/
theorem sum_upto (f : ℕ → EReal) (M j : ℕ) (hj : j ≤ M) :
    ∑ w ∈ Finset.range (M + 1), (if M ≤ j + w then f (j + w - M) else 0) = ∑ i ∈ Finset.range (j + 1), f i := by
  obtain ⟨d, rfl⟩ := Nat.exists_eq_add_of_le hj
  rw [show j + d + 1 = d + (j + 1) by omega, Finset.sum_range_add]
  rw [Finset.sum_eq_zero fun w hw => if_neg (by have := Finset.mem_range.1 hw; omega), zero_add]
  refine Finset.sum_congr rfl fun i _ => ?_
  rw [if_pos (by omega)]
  congr 1
  omega

/-- A running sum along the middle of three axes. -/
theorem cum_mid {n0 M n2 : ℕ} (x : (⟨3, ![n0, M + 1, n2]⟩ : Shape).Idx → EReal) (f : ℕ → EReal) (b : Fin n0) (k : Fin n2)
    (hf : ∀ i : Fin (M + 1), x (ix3 b i k) = f i.val) {u : Shape} (init : u.Idx → EReal) (hu : 0 < u.numel) (hinit : init (Shape.Idx.first hu) = 0)
    (h : (⟨3, ![n0, M + 1, n2]⟩ : Shape).ReduceWindows (![1, M + 1, 1] : Fin 3 → ℕ) ![1, 1, 1] ![0, M, 0] ![0, 0, 0] ⟨3, ![n0, M + 1, n2]⟩) (j : Fin (M + 1)) :
    Host.reduceWindow (· + ·) ![1, M + 1, 1] ![1, 1, 1] ![0, M, 0] ![0, 0, 0] x init h hu (ix3 b j k) = ∑ i ∈ Finset.range (j.val + 1), f i := by
  have hj := j.isLt
  unfold Host.reduceWindow
  refine (foldl_add_eq _ _ _).trans ?_
  rw [hinit, zero_add]
  refine (congrArg List.sum (List.map_congr_left (g := fun n : Fin (⟨3, ![1, M + 1, 1]⟩ : Shape).numel =>
    (fun w : (⟨3, ![1, M + 1, 1]⟩ : Shape).Idx => if M ≤ j.val + (w 1).val then f (j.val + (w 1).val - M) else 0)
      ((⟨3, ![1, M + 1, 1]⟩ : Shape).rowMajor.symm n)) fun n _ => ?_)).trans ?_
  · have h0 : ((⟨3, ![1, M + 1, 1]⟩ : Shape).rowMajor.symm n 0).val = 0 := by have : ((⟨3, ![1, M + 1, 1]⟩ : Shape).rowMajor.symm n 0).val < 1 := ((⟨3, ![1, M + 1, 1]⟩ : Shape).rowMajor.symm n 0).isLt; omega
    have h2 : ((⟨3, ![1, M + 1, 1]⟩ : Shape).rowMajor.symm n 2).val = 0 := by have : ((⟨3, ![1, M + 1, 1]⟩ : Shape).rowMajor.symm n 2).val < 1 := ((⟨3, ![1, M + 1, 1]⟩ : Shape).rowMajor.symm n 2).isLt; omega
    have h1 : ((⟨3, ![1, M + 1, 1]⟩ : Shape).rowMajor.symm n 1).val < M + 1 := ((⟨3, ![1, M + 1, 1]⟩ : Shape).rowMajor.symm n 1).isLt
    dsimp only
    split
    · next hin =>
      have hin1 := hin 1
      change M ≤ j.val * 1 + ((⟨3, ![1, M + 1, 1]⟩ : Shape).rowMajor.symm n 1).val ∧ j.val * 1 + ((⟨3, ![1, M + 1, 1]⟩ : Shape).rowMajor.symm n 1).val - M < M + 1 at hin1
      rw [if_pos (by omega)]
      refine (congrArg x (funext fun a => Fin.ext ?_)).trans (hf ⟨j.val + ((⟨3, ![1, M + 1, 1]⟩ : Shape).rowMajor.symm n 1).val - M, by omega⟩)
      match a with
      | ⟨0, _⟩ =>
        show b.val * 1 + ((⟨3, ![1, M + 1, 1]⟩ : Shape).rowMajor.symm n 0).val - 0 = b.val
        omega
      | ⟨1, _⟩ =>
        show j.val * 1 + ((⟨3, ![1, M + 1, 1]⟩ : Shape).rowMajor.symm n 1).val - M = j.val + ((⟨3, ![1, M + 1, 1]⟩ : Shape).rowMajor.symm n 1).val - M
        omega
      | ⟨2, _⟩ =>
        show k.val * 1 + ((⟨3, ![1, M + 1, 1]⟩ : Shape).rowMajor.symm n 2).val - 0 = k.val
        omega
    · next hin =>
      rw [if_neg fun hle => hin fun a => by
        match a with
        | ⟨0, _⟩ =>
          show 0 ≤ b.val * 1 + ((⟨3, ![1, M + 1, 1]⟩ : Shape).rowMajor.symm n 0).val ∧ b.val * 1 + ((⟨3, ![1, M + 1, 1]⟩ : Shape).rowMajor.symm n 0).val - 0 < n0
          have := b.isLt
          omega
        | ⟨1, _⟩ =>
          show M ≤ j.val * 1 + ((⟨3, ![1, M + 1, 1]⟩ : Shape).rowMajor.symm n 1).val ∧ j.val * 1 + ((⟨3, ![1, M + 1, 1]⟩ : Shape).rowMajor.symm n 1).val - M < M + 1
          omega
        | ⟨2, _⟩ =>
          show 0 ≤ k.val * 1 + ((⟨3, ![1, M + 1, 1]⟩ : Shape).rowMajor.symm n 2).val ∧ k.val * 1 + ((⟨3, ![1, M + 1, 1]⟩ : Shape).rowMajor.symm n 2).val - 0 < n2
          have := k.isLt
          omega]
  · rw [← List.ofFn_eq_map, List.sum_ofFn]
    rw [Equiv.sum_comp (⟨3, ![1, M + 1, 1]⟩ : Shape).rowMajor.symm
      (fun w : (⟨3, ![1, M + 1, 1]⟩ : Shape).Idx => if M ≤ j.val + (w 1).val then f (j.val + (w 1).val - M) else (0 : EReal))]
    rw [sum_idx3]
    simp only [Finset.univ_unique, Finset.sum_singleton]
    exact (Fin.sum_univ_eq_sum_range (fun w => if M ≤ j.val + w then f (j.val + w - M) else 0) (M + 1)).trans (sum_upto f M j.val (by omega))

/-- The same of the host's running sum, over the axis's extent. -/
theorem cumAdd_mid {n0 N M n2 : ℕ} (hN : M + 1 = N) (x : FVec Ideal ⟨3, ![n0, N, n2]⟩ .f32) (f : ℕ → EReal) (b : Fin n0) (k : Fin n2)
    (hf : ∀ i : Fin N, x (ix3 b i k) = f i.val) {u : Shape} (init : FVec Ideal u .f32) (hu : 0 < u.numel) (hinit : init (Shape.Idx.first hu) = 0)
    (h : (⟨3, ![n0, N, n2]⟩ : Shape).ReduceWindows (![1, N, 1] : Fin 3 → ℕ) ![1, 1, 1] ![0, M, 0] ![0, 0, 0] ⟨3, ![n0, N, n2]⟩) (j : Fin N) :
    Host.reduceWindowAdd ![1, N, 1] ![1, 1, 1] ![0, M, 0] ![0, 0, 0] x init h hu (ix3 b j k) = ∑ i ∈ Finset.range (j.val + 1), f i := by
  subst hN
  exact cum_mid x f b k hf (fun _ : (⟨0, ![]⟩ : Shape).Idx => init (Shape.Idx.first hu)) (by decide) hinit h j

/-- The running sum of the padded stream, entry by entry. -/
theorem rCum_apply (A2 : FVec Ideal Cert.MergeRefIdeal.S8x8192x512 .f32) (b : Fin 8) (n : Fin 8208) (k : Fin 512) :
    rCum A2 (ix3 b n k) = ∑ i ∈ Finset.range n.val, str A2 b k i := by
  have z : Ideal.ofBits .f32 0x00000000#32 = 0 := by simp
  unfold rCum
  have hx := fun i => rPad_apply A2 b i k
  generalize rPad A2 = x at hx ⊢
  have hc := fun j => cumAdd_mid (N := 8207) (M := 8206) rfl x (str A2 b k) b k hx
    (broadcastInDim Cert.MergeRefIdeal.S_ ![] Cert.MergeRefIdeal.Gen.bcast_S_S_ (constant Cert.MergeRefIdeal.S_ .f32 0x00000000#32)) Cert.MergeRefIdeal.Gen.h_S_ z
    Cert.MergeRefIdeal.Gen.reduceWindows_S8x8207x512_S8x8207x512_w1s1p0_0_w8207s1p8206_0_w1s1p0_0 j
  generalize Host.reduceWindowAdd (F := Ideal) (φ := .f32) _ _ _ _ x _ _ _ = C at hc ⊢
  have hn := n.isLt
  by_cases h : n.val < 1
  · pointwise
    rw [dif_pos h, show n.val = 0 by omega, Finset.sum_range_zero]
  · pointwise
    rw [dif_neg h, hc]
    show ∑ i ∈ Finset.range (n.val - 1 + 1), _ = _
    rw [show n.val - 1 + 1 = n.val by omega]

/-- A difference of two running sums of finite entries is the sum between. -/
theorem sum_sub_sum (f : ℕ → EReal) (hf : ∀ i, f i ≠ ⊤ ∧ f i ≠ ⊥) (n w : ℕ) :
    ∑ i ∈ Finset.range (n + w), f i - ∑ i ∈ Finset.range n, f i = ∑ i ∈ Finset.range w, f (n + i) := by
  lift f to ℕ → ℝ using fun i => hf i
  have hc : ∀ (g : ℕ → ℝ) (s : Finset ℕ), ∑ i ∈ s, (g i : EReal) = ((∑ i ∈ s, g i : ℝ) : EReal) := fun g s =>
    (map_sum (⟨⟨((↑) : ℝ → EReal), EReal.coe_zero⟩, EReal.coe_add⟩ : ℝ →+ EReal) g s).symm
  rw [Finset.sum_range_add, hc, hc, ← EReal.coe_add, ← EReal.coe_sub, add_sub_cancel_left]

end Cert.MergeVal
end
-- ==== Proof.Val.MergePool.lean ====
/- The merge call's pooled branch: a block's window sums are the differences of the running sum. -/
module

public import proofs.«01_k».proof.Proof.Val.MergeKer
public import proofs.«01_k».proof.Proof.Val.MergeCum

@[expose] public section

set_option maxRecDepth 16384

noncomputable section

open Idealize.ShloMosaic Idealize.ShloMosaic.TcCoe Idealize.SL.Sem

namespace Cert.MergeVal
open Cert.MergeIdeal Cert.MergeIdeal.Gen

/-- A column's window mean less the column itself, at a token. -/
def pcol (A2 : FVec Ideal S8x8192x512 .f32) (b : Fin 8) (k : Fin 512) (r : ℕ) : EReal :=
  Ideal.div (∑ i ∈ Finset.range (wid k), str A2 b k (r + (16 - wid k) + i)) (cnt (wid k) (BitVec.ofNat 32 (r + 1))) - str A2 b k (r + 15)

/-- A window's width, by its group. -/
theorem wid_of (k : Fin 512) (g : ℕ) (h : k.val / 128 = g) : wid k = 2 ^ (g + 1) := by rw [wid, h]

/-- The stream past its fifteen zeros. -/
theorem str_tok (A2 : FVec Ideal S8x8192x512 .f32) (b : Fin 8) (k : Fin 512) (r : Fin 8192) : str A2 b k (r.val + 15) = A2 (ix3 b r k) := by
  have := r.isLt
  unfold str
  rw [dif_pos (by omega)]
  exact congrArg (fun q => A2 (ix3 b q k)) (Fin.ext (by show r.val + 15 - 15 = r.val; omega))

/-- The stream is finite when its entries are. -/
theorem str_fin (A2 : FVec Ideal S8x8192x512 .f32) (hA : ∀ i, A2 i ≠ ⊤ ∧ A2 i ≠ ⊥) (b : Fin 8) (k : Fin 512) (i : ℕ) : str A2 b k i ≠ ⊤ ∧ str A2 b k i ≠ ⊥ := by
  unfold str
  split
  · exact hA _
  · exact ⟨EReal.zero_ne_top, EReal.zero_ne_bot⟩

/-- The reference's window mean less the column. -/
theorem mean_sub (A2 : FVec Ideal S8x8192x512 .f32) (hA : ∀ i, A2 i ≠ ⊤ ∧ A2 i ≠ ⊥) (b : Fin 8) (r : Fin 8192) (k : Fin 512) :
    rMean (rCum A2) rPos (ix3 b r k) - A2 (ix3 b r k) = pcol A2 b k r.val := by
  have hw : wid k ≤ 16 := by
    have := k.isLt
    rw [wid]
    calc 2 ^ (k.val / 128 + 1) ≤ 2 ^ 4 := Nat.pow_le_pow_right (by omega) (by omega)
      _ = 16 := by norm_num
  rw [rMean_apply, rCum_apply, rCum_apply, rPos_apply, pcol, str_tok]
  dsimp only
  have := sum_sub_sum (str A2 b k) (str_fin A2 hA b k) (r.val + (16 - wid k)) (wid k)
  rw [show r.val + (16 - wid k) + wid k = 16 + r.val by omega] at this
  rw [show 16 + r.val - wid k = r.val + (16 - wid k) by omega, this]

/-- A load of a block of rows, entry by entry. -/
theorem ld_rows (E : FVec Ideal S528x512 .f32) (o c : ℕ) (inb : ∀ a, (![o, c] : Fin 2 → ℕ) a + (![512, 128] : Fin 2 → ℕ) a ≤ S528x512.size a) (y : Fin 512) (d : Fin 128) :
    View.ld (Val := Elt Ideal) (S := S528x512) (e' := EltTy.f32) E (Rect.unit ![o, c] ![512, 128] inb) (ix2 y d)
      = E (ix2 ⟨o + y.val, by have : o + 512 ≤ 528 := inb 0; omega⟩ ⟨c + d.val, by have : c + 128 ≤ 512 := inb 1; omega⟩) := by
  refine congrArg E (funext fun a => Fin.ext ?_)
  match a with
  | ⟨0, _⟩ =>
    show o + 1 * y.val = o + y.val
    omega
  | ⟨1, _⟩ =>
    show c + 1 * d.val = c + d.val
    omega

/-- The same, of the stream. -/
theorem ld_str (A2 : FVec Ideal S8x8192x512 .f32) (b : Fin 8) (E : FVec Ideal S528x512 .f32) (r : ℕ) (y : Fin 512)
    (hE : ∀ (o : ℕ) (h : o + y.val < 528) (_ : 1 ≤ o) (k : Fin 512), E (ix2 ⟨o + y.val, h⟩ k) = str A2 b k (r + (o - 1))) (o : ℕ) (ho : 1 ≤ o) (c : ℕ)
    (inb : ∀ a, (![o, c] : Fin 2 → ℕ) a + (![512, 128] : Fin 2 → ℕ) a ≤ S528x512.size a) (d : Fin 128) :
    View.ld (Val := Elt Ideal) (S := S528x512) (e' := EltTy.f32) E (Rect.unit ![o, c] ![512, 128] inb) (ix2 y d) = str A2 b ⟨c + d.val, by have : c + 128 ≤ 512 := inb 1; omega⟩ (r + (o - 1)) := by
  rw [ld_rows, hE _ _ ho]

/-- The first group's columns. -/
theorem grp0 (A2 : FVec Ideal S8x8192x512 .f32) (b : Fin 8) (T : ℕ) (E : FVec Ideal S528x512 .f32) (v22 : FVec Ideal S512x512 .f32) (r : ℕ) (y : Fin 512) (hr : r = T * 512 + y.val)
    (hE : ∀ (o : ℕ) (h : o + y.val < 528) (_ : 1 ≤ o) (k : Fin 512), E (ix2 ⟨o + y.val, h⟩ k) = str A2 b k (r + (o - 1)))
    (hv : ∀ k : Fin 512, v22 (ix2 y k) = str A2 b k (r + 15))
    (W : Vec Ideal S1x128x128 .bf16) (e : Fin 128) :
    k0_pay8 (BitVec.ofNat 32 T) v22 (View.ld (Val := Elt Ideal) (S := S528x512) (e' := EltTy.f32) E (Rect.unit ![15, 0] ![512, 128] inb_S528x512_S512x128_15_0)) W (ix2 y e) = ∑ d : Fin 128, pcol A2 b ⟨d.val, by omega⟩ r * W (ix3 0 d e) := by
  rw [pay8_apply, pos_eq, ← hr]
  refine Finset.sum_congr rfl fun d _ => ?_
  rw [pcol, wid_of ⟨d.val, by omega⟩ 0 (by show (d.val) / 128 = 0; omega)]
  congr 1
  simp only [Nat.reduceAdd, Nat.reducePow]
  simp only [hv, Nat.reduceSub, Finset.sum_range_succ, Finset.sum_range_zero, zero_add, Nat.add_assoc, Nat.reduceAdd, add_zero, ld_str A2 b E r y hE 15 (by decide) 0 inb_S528x512_S512x128_15_0]
  congr 2
  abel

/-- The second group's columns. -/
theorem grp1 (A2 : FVec Ideal S8x8192x512 .f32) (b : Fin 8) (T : ℕ) (E : FVec Ideal S528x512 .f32) (v22 : FVec Ideal S512x512 .f32) (r : ℕ) (y : Fin 512) (hr : r = T * 512 + y.val)
    (hE : ∀ (o : ℕ) (h : o + y.val < 528) (_ : 1 ≤ o) (k : Fin 512), E (ix2 ⟨o + y.val, h⟩ k) = str A2 b k (r + (o - 1)))
    (hv : ∀ k : Fin 512, v22 (ix2 y k) = str A2 b k (r + 15))
    (W : Vec Ideal S1x128x128 .bf16) (e : Fin 128) :
    k0_pay10 (k0_pay9 (BitVec.ofNat 32 T) v22 (View.ld (Val := Elt Ideal) (S := S528x512) (e' := EltTy.f32) E (Rect.unit ![15, 128] ![512, 128] inb_S528x512_S512x128_15_128)) (View.ld (Val := Elt Ideal) (S := S528x512) (e' := EltTy.f32) E (Rect.unit ![14, 128] ![512, 128] inb_S528x512_S512x128_14_128)) (View.ld (Val := Elt Ideal) (S := S528x512) (e' := EltTy.f32) E (Rect.unit ![13, 128] ![512, 128] inb_S528x512_S512x128_13_128))) W (ix2 y e) = ∑ d : Fin 128, pcol A2 b ⟨128 + d.val, by omega⟩ r * W (ix3 0 d e) := by
  rw [pay10_apply, pos_eq, ← hr]
  refine Finset.sum_congr rfl fun d _ => ?_
  rw [pcol, wid_of ⟨128 + d.val, by omega⟩ 1 (by show (128 + d.val) / 128 = 1; omega)]
  congr 1
  simp only [Nat.reduceAdd, Nat.reducePow]
  simp only [hv, Nat.reduceSub, Finset.sum_range_succ, Finset.sum_range_zero, zero_add, Nat.add_assoc, Nat.reduceAdd, add_zero, ld_str A2 b E r y hE 15 (by decide) 128 inb_S528x512_S512x128_15_128, ld_str A2 b E r y hE 14 (by decide) 128 inb_S528x512_S512x128_14_128, ld_str A2 b E r y hE 13 (by decide) 128 inb_S528x512_S512x128_13_128]
  congr 2
  abel

/-- The third group's columns. -/
theorem grp2 (A2 : FVec Ideal S8x8192x512 .f32) (b : Fin 8) (T : ℕ) (E : FVec Ideal S528x512 .f32) (v22 : FVec Ideal S512x512 .f32) (r : ℕ) (y : Fin 512) (hr : r = T * 512 + y.val)
    (hE : ∀ (o : ℕ) (h : o + y.val < 528) (_ : 1 ≤ o) (k : Fin 512), E (ix2 ⟨o + y.val, h⟩ k) = str A2 b k (r + (o - 1)))
    (hv : ∀ k : Fin 512, v22 (ix2 y k) = str A2 b k (r + 15))
    (W : Vec Ideal S1x128x128 .bf16) (e : Fin 128) :
    k0_pay11 v22 (k0_pay7 (BitVec.ofNat 32 T)) (View.ld (Val := Elt Ideal) (S := S528x512) (e' := EltTy.f32) E (Rect.unit ![15, 256] ![512, 128] inb_S528x512_S512x128_15_256)) (View.ld (Val := Elt Ideal) (S := S528x512) (e' := EltTy.f32) E (Rect.unit ![14, 256] ![512, 128] inb_S528x512_S512x128_14_256)) (View.ld (Val := Elt Ideal) (S := S528x512) (e' := EltTy.f32) E (Rect.unit ![13, 256] ![512, 128] inb_S528x512_S512x128_13_256)) (View.ld (Val := Elt Ideal) (S := S528x512) (e' := EltTy.f32) E (Rect.unit ![12, 256] ![512, 128] inb_S528x512_S512x128_12_256)) (View.ld (Val := Elt Ideal) (S := S528x512) (e' := EltTy.f32) E (Rect.unit ![11, 256] ![512, 128] inb_S528x512_S512x128_11_256)) (View.ld (Val := Elt Ideal) (S := S528x512) (e' := EltTy.f32) E (Rect.unit ![10, 256] ![512, 128] inb_S528x512_S512x128_10_256)) (View.ld (Val := Elt Ideal) (S := S528x512) (e' := EltTy.f32) E (Rect.unit ![9, 256] ![512, 128] inb_S528x512_S512x128_9_256)) W (ix2 y e) = ∑ d : Fin 128, pcol A2 b ⟨256 + d.val, by omega⟩ r * W (ix3 0 d e) := by
  rw [pay11_apply, pos_eq, ← hr]
  refine Finset.sum_congr rfl fun d _ => ?_
  rw [pcol, wid_of ⟨256 + d.val, by omega⟩ 2 (by show (256 + d.val) / 128 = 2; omega)]
  congr 1
  simp only [Nat.reduceAdd, Nat.reducePow]
  simp only [hv, Nat.reduceSub, Finset.sum_range_succ, Finset.sum_range_zero, zero_add, Nat.add_assoc, Nat.reduceAdd, add_zero, ld_str A2 b E r y hE 15 (by decide) 256 inb_S528x512_S512x128_15_256, ld_str A2 b E r y hE 14 (by decide) 256 inb_S528x512_S512x128_14_256, ld_str A2 b E r y hE 13 (by decide) 256 inb_S528x512_S512x128_13_256, ld_str A2 b E r y hE 12 (by decide) 256 inb_S528x512_S512x128_12_256, ld_str A2 b E r y hE 11 (by decide) 256 inb_S528x512_S512x128_11_256, ld_str A2 b E r y hE 10 (by decide) 256 inb_S528x512_S512x128_10_256, ld_str A2 b E r y hE 9 (by decide) 256 inb_S528x512_S512x128_9_256]
  congr 2
  abel

/-- The fourth group's window sum, at a column. -/
theorem grp3 (A2 : FVec Ideal S8x8192x512 .f32) (b : Fin 8) (T : ℕ) (E : FVec Ideal S528x512 .f32) (v22 : FVec Ideal S512x512 .f32) (r : ℕ) (y : Fin 512) (hr : r = T * 512 + y.val)
    (hE : ∀ (o : ℕ) (h : o + y.val < 528) (_ : 1 ≤ o) (k : Fin 512), E (ix2 ⟨o + y.val, h⟩ k) = str A2 b k (r + (o - 1)))
    (hv : ∀ k : Fin 512, v22 (ix2 y k) = str A2 b k (r + 15))
    (d : Fin 128) :
    Ideal.div (k0_pay13 (k0_pay12 v22 (View.ld (Val := Elt Ideal) (S := S528x512) (e' := EltTy.f32) E (Rect.unit ![15, 384] ![512, 128] inb_S528x512_S512x128_15_384))) (View.ld (Val := Elt Ideal) (S := S528x512) (e' := EltTy.f32) E (Rect.unit ![14, 384] ![512, 128] inb_S528x512_S512x128_14_384)) (View.ld (Val := Elt Ideal) (S := S528x512) (e' := EltTy.f32) E (Rect.unit ![13, 384] ![512, 128] inb_S528x512_S512x128_13_384)) (View.ld (Val := Elt Ideal) (S := S528x512) (e' := EltTy.f32) E (Rect.unit ![12, 384] ![512, 128] inb_S528x512_S512x128_12_384)) (View.ld (Val := Elt Ideal) (S := S528x512) (e' := EltTy.f32) E (Rect.unit ![11, 384] ![512, 128] inb_S528x512_S512x128_11_384)) (View.ld (Val := Elt Ideal) (S := S528x512) (e' := EltTy.f32) E (Rect.unit ![10, 384] ![512, 128] inb_S528x512_S512x128_10_384)) (View.ld (Val := Elt Ideal) (S := S528x512) (e' := EltTy.f32) E (Rect.unit ![9, 384] ![512, 128] inb_S528x512_S512x128_9_384)) (View.ld (Val := Elt Ideal) (S := S528x512) (e' := EltTy.f32) E (Rect.unit ![8, 384] ![512, 128] inb_S528x512_S512x128_8_384)) (View.ld (Val := Elt Ideal) (S := S528x512) (e' := EltTy.f32) E (Rect.unit ![7, 384] ![512, 128] inb_S528x512_S512x128_7_384)) (View.ld (Val := Elt Ideal) (S := S528x512) (e' := EltTy.f32) E (Rect.unit ![6, 384] ![512, 128] inb_S528x512_S512x128_6_384)) (View.ld (Val := Elt Ideal) (S := S528x512) (e' := EltTy.f32) E (Rect.unit ![5, 384] ![512, 128] inb_S528x512_S512x128_5_384)) (View.ld (Val := Elt Ideal) (S := S528x512) (e' := EltTy.f32) E (Rect.unit ![4, 384] ![512, 128] inb_S528x512_S512x128_4_384)) (View.ld (Val := Elt Ideal) (S := S528x512) (e' := EltTy.f32) E (Rect.unit ![3, 384] ![512, 128] inb_S528x512_S512x128_3_384)) (View.ld (Val := Elt Ideal) (S := S528x512) (e' := EltTy.f32) E (Rect.unit ![2, 384] ![512, 128] inb_S528x512_S512x128_2_384)) (View.ld (Val := Elt Ideal) (S := S528x512) (e' := EltTy.f32) E (Rect.unit ![1, 384] ![512, 128] inb_S528x512_S512x128_1_384)) (ix2 y d)) (cnt 16 (k0_pay14 (k0_pay7 (BitVec.ofNat 32 T)) (ix2 y 0))) - v22 (ix2 y ⟨384 + d.val, by omega⟩)
      = pcol A2 b ⟨384 + d.val, by omega⟩ r := by
  rw [pay13_apply, pay14_apply, pos_eq, ← hr]
  rw [pcol, wid_of ⟨384 + d.val, by omega⟩ 3 (by show (384 + d.val) / 128 = 3; omega)]
  simp only [Nat.reduceAdd, Nat.reducePow]
  simp only [hv, Nat.reduceSub, Finset.sum_range_succ, Finset.sum_range_zero, zero_add, Nat.add_assoc, Nat.reduceAdd, add_zero, ld_str A2 b E r y hE 15 (by decide) 384 inb_S528x512_S512x128_15_384, ld_str A2 b E r y hE 14 (by decide) 384 inb_S528x512_S512x128_14_384, ld_str A2 b E r y hE 13 (by decide) 384 inb_S528x512_S512x128_13_384, ld_str A2 b E r y hE 12 (by decide) 384 inb_S528x512_S512x128_12_384, ld_str A2 b E r y hE 11 (by decide) 384 inb_S528x512_S512x128_11_384, ld_str A2 b E r y hE 10 (by decide) 384 inb_S528x512_S512x128_10_384, ld_str A2 b E r y hE 9 (by decide) 384 inb_S528x512_S512x128_9_384, ld_str A2 b E r y hE 8 (by decide) 384 inb_S528x512_S512x128_8_384, ld_str A2 b E r y hE 7 (by decide) 384 inb_S528x512_S512x128_7_384, ld_str A2 b E r y hE 6 (by decide) 384 inb_S528x512_S512x128_6_384, ld_str A2 b E r y hE 5 (by decide) 384 inb_S528x512_S512x128_5_384, ld_str A2 b E r y hE 4 (by decide) 384 inb_S528x512_S512x128_4_384, ld_str A2 b E r y hE 3 (by decide) 384 inb_S528x512_S512x128_3_384, ld_str A2 b E r y hE 2 (by decide) 384 inb_S528x512_S512x128_2_384, ld_str A2 b E r y hE 1 (by decide) 384 inb_S528x512_S512x128_1_384]
  congr 2
  abel

end Cert.MergeVal
end
-- ==== Proof.Val.Merge.lean ====
/- The merge call's value claim. -/
module

public import proofs.«01_k».proof.Defs
public import proofs.«01_k».proof.Proof.Gen.MergeIdeal.Value
public import proofs.«01_k».proof.Proof.Gen.MergeRefIdeal.Run
public import proofs.«01_k».proof.Proof.Val.MergeBlk
public import proofs.«01_k».proof.Proof.Val.MergePool
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeVal
open Cert.MergeIdeal Cert.MergeIdeal.Gen

/-- Which of two values the first block takes. -/
theorem sel_eq {α : Type} (T : ℕ) (hT : T < 16) (a b : α) : Scalar.select (Scalar.cmpi .eq (BitVec.ofNat 32 T) 0#32) a b = if T = 0 then a else b := by
  interval_cases T <;> rfl

/-- A group's weights, entry by entry. -/
theorem ld_w (P : Vec Ideal S4x128x128 .bf16) (g : ℕ) (inb : ∀ a, (![g, 0, 0] : Fin 3 → ℕ) a + (![1, 128, 128] : Fin 3 → ℕ) a ≤ S4x128x128.size a) (d e : Fin 128) :
    View.ld (Val := Elt Ideal) (S := S4x128x128) (e' := EltTy.bf16) P (Rect.unit ![g, 0, 0] ![1, 128, 128] inb) (ix3 0 d e)
      = P (ix3 ⟨g, by have : g + 1 ≤ 4 := inb 0; omega⟩ d e) := by
  refine congrArg P (funext fun a => Fin.ext ?_)
  match a with
  | ⟨0, _⟩ => rfl
  | ⟨1, _⟩ =>
    show 0 + 1 * d.val = d.val
    omega
  | ⟨2, _⟩ =>
    show 0 + 1 * e.val = e.val
    omega

/-- A head's keys, entry by entry. -/
theorem ld_k (P : Vec Ideal S1x4x128x256 .bf16) (h : ℕ) (inb : ∀ a, (![0, h, 0, 0] : Fin 4 → ℕ) a + (![1, 1, 128, 256] : Fin 4 → ℕ) a ≤ S1x4x128x256.size a) (d : Fin 128) (i : Fin 256) :
    View.ld (Val := Elt Ideal) (S := S1x4x128x256) (e' := EltTy.bf16) P (Rect.unit ![0, h, 0, 0] ![1, 1, 128, 256] inb) (ix4 0 0 d i)
      = P (ix4 0 ⟨h, by have : h + 1 ≤ 4 := inb 1; omega⟩ d i) := by
  refine congrArg P (funext fun a => Fin.ext ?_)
  match a with
  | ⟨0, _⟩ => rfl
  | ⟨1, _⟩ => rfl
  | ⟨2, _⟩ =>
    show 0 + 1 * d.val = d.val
    omega
  | ⟨3, _⟩ =>
    show 0 + 1 * i.val = i.val
    omega

/-- A head's values, entry by entry. -/
theorem ld_v (P : Vec Ideal S1x4x256x128 .bf16) (h : ℕ) (inb : ∀ a, (![0, h, 0, 0] : Fin 4 → ℕ) a + (![1, 1, 256, 128] : Fin 4 → ℕ) a ≤ S1x4x256x128.size a) (i : Fin 256) (d : Fin 128) :
    View.ld (Val := Elt Ideal) (S := S1x4x256x128) (e' := EltTy.bf16) P (Rect.unit ![0, h, 0, 0] ![1, 1, 256, 128] inb) (ix4 0 0 i d)
      = P (ix4 0 ⟨h, by have : h + 1 ≤ 4 := inb 1; omega⟩ i d) := by
  refine congrArg P (funext fun a => Fin.ext ?_)
  match a with
  | ⟨0, _⟩ => rfl
  | ⟨1, _⟩ => rfl
  | ⟨2, _⟩ =>
    show 0 + 1 * i.val = i.val
    omega
  | ⟨3, _⟩ =>
    show 0 + 1 * d.val = d.val
    omega

/-- One head of a row, of the reference's memory branch. -/
theorem head_eq (A3 : FVec Ideal S8x8192x512 .bf16) (A4 A5 : FVec Ideal S8x256x4x128 .f32) (b : Fin 8) (r : Fin 8192) (k : Fin 512) (h : Fin 4) (e : Fin 128)
    (hh : k.val / 128 = h.val) (he : k.val % 128 = e.val) (f v : Fin 256 → EReal)
    (hf : ∀ i, f i = lgt (fun d => A3 (ix3 b r ⟨h.val * 128 + d.val, by omega⟩)) (fun i d => A4 (ix4 b i h d)) i) (hv : ∀ i, v i = A5 (ix4 b i h e)) :
    att f v = rMem A5 (rExp (rLogit A3 A4) (rTop (rLogit A3 A4))) (ix3 b r k) := by
  obtain rfl : f = _ := funext hf
  obtain rfl : v = _ := funext hv
  rw [rMem_apply, show (⟨k.val / 128, by omega⟩ : Fin 4) = h from Fin.ext hh, show (⟨k.val % 128, by omega⟩ : Fin 128) = e from Fin.ext he]
  simp only [rExp_apply, rLogit_apply]
  exact Finset.sum_congr rfl fun i _ => mul_comm _ _

/-- The memory branch of a block's row. -/
theorem mem_eq (A3 : FVec Ideal S8x8192x512 .bf16) (A4 A5 : FVec Ideal S8x256x4x128 .f32) (b : Fin 8) (r : Fin 8192) (y : Fin 512)
    (P5 : Vec Ideal S1x512x512 .bf16) (P6 : Vec Ideal S1x4x128x256 .bf16) (P7 : Vec Ideal S1x4x256x128 .bf16) (h5 : ∀ k, P5 (ix3 0 y k) = A3 (ix3 b r k))
    (h6 : ∀ h d i, P6 (ix4 0 h d i) = A4 (ix4 b i h d)) (h7 : ∀ h d i, P7 (ix4 0 h i d) = A5 (ix4 b i h d)) (k : Fin 512) :
    k0_pay20 (k0_pay16 P5) (k0_pay17 P5 (View.ld (Val := Elt Ideal) (S := S1x4x128x256) (e' := EltTy.bf16) P6 (Rect.unit ![0, 0, 0, 0] ![1, 1, 128, 256] inb_S1x4x128x256_S1x1x128x256_0_0_0_0)) (View.ld (Val := Elt Ideal) (S := S1x4x256x128) (e' := EltTy.bf16) P7 (Rect.unit ![0, 0, 0, 0] ![1, 1, 256, 128] inb_S1x4x256x128_S1x1x256x128_0_0_0_0))) (k0_pay18 (k0_pay16 P5) (View.ld (Val := Elt Ideal) (S := S1x4x128x256) (e' := EltTy.bf16) P6 (Rect.unit ![0, 1, 0, 0] ![1, 1, 128, 256] inb_S1x4x128x256_S1x1x128x256_0_1_0_0)) (View.ld (Val := Elt Ideal) (S := S1x4x256x128) (e' := EltTy.bf16) P7 (Rect.unit ![0, 1, 0, 0] ![1, 1, 256, 128] inb_S1x4x256x128_S1x1x256x128_0_1_0_0))) (k0_pay19 (k0_pay16 P5) (View.ld (Val := Elt Ideal) (S := S1x4x128x256) (e' := EltTy.bf16) P6 (Rect.unit ![0, 2, 0, 0] ![1, 1, 128, 256] inb_S1x4x128x256_S1x1x128x256_0_2_0_0))) (View.ld (Val := Elt Ideal) (S := S1x4x256x128) (e' := EltTy.bf16) P7 (Rect.unit ![0, 2, 0, 0] ![1, 1, 256, 128] inb_S1x4x256x128_S1x1x256x128_0_2_0_0)) (View.ld (Val := Elt Ideal) (S := S1x4x128x256) (e' := EltTy.bf16) P6 (Rect.unit ![0, 3, 0, 0] ![1, 1, 128, 256] inb_S1x4x128x256_S1x1x128x256_0_3_0_0)) (View.ld (Val := Elt Ideal) (S := S1x4x256x128) (e' := EltTy.bf16) P7 (Rect.unit ![0, 3, 0, 0] ![1, 1, 256, 128] inb_S1x4x256x128_S1x1x256x128_0_3_0_0)) (ix2 y k)
      = rMem A5 (rExp (rLogit A3 A4) (rTop (rLogit A3 A4))) (ix3 b r k) := by
  have hk := k.isLt
  rw [pay20_apply]
  by_cases c0 : k.val < 128
  · rw [dif_pos c0, pay17_apply]
    refine head_eq A3 A4 A5 b r k 0 ⟨k.val, c0⟩ (by show k.val / 128 = 0; omega) (by show k.val % 128 = k.val; omega) _ _ (fun i => ?_) fun i => ?_
    · exact congrArg (· * _) (Finset.sum_congr rfl fun d _ => congrArg₂ (· * ·) ((pay16_apply _ _ _).trans (h5 _)) ((ld_k _ _ _ _ _).trans (h6 _ _ _)))
    · rw [ld_v, h7]
      rfl
  by_cases c1 : k.val - 128 < 128
  · rw [dif_neg c0, dif_pos c1, pay18_apply]
    refine head_eq A3 A4 A5 b r k 1 ⟨k.val - 128, c1⟩ (by show k.val / 128 = 1; omega) (by show k.val % 128 = k.val - 128; omega) _ _ (fun i => ?_) fun i => ?_
    · exact congrArg (· * _) (Finset.sum_congr rfl fun d _ => congrArg₂ (· * ·) ((pay16_apply _ _ _).trans (h5 _)) ((ld_k _ _ _ _ _).trans (h6 _ _ _)))
    · rw [ld_v, h7]
      rfl
  by_cases c2 : k.val - 128 - 128 < 128
  · rw [dif_neg c0, dif_neg c1, dif_pos c2]
    refine head_eq A3 A4 A5 b r k 2 ⟨k.val - 128 - 128, c2⟩ (by show k.val / 128 = 2; omega) (by show k.val % 128 = k.val - 128 - 128; omega) _ _ (fun i => ?_) fun i => ?_
    · exact congrArg (· * _) (Finset.sum_congr rfl fun d _ => congrArg₂ (· * ·) ((pay16_apply _ _ _).trans (h5 _)) ((ld_k _ _ _ _ _).trans (h6 _ _ _)))
    · rw [ld_v, h7]
      rfl
  · rw [dif_neg c0, dif_neg c1, dif_neg c2]
    refine head_eq A3 A4 A5 b r k 3 ⟨k.val - 128 - 128 - 128, by omega⟩ (by show k.val / 128 = 3; omega) (by show k.val % 128 = k.val - 128 - 128 - 128; omega) _ _ (fun i => ?_) fun i => ?_
    · exact congrArg (· * _) (Finset.sum_congr rfl fun d _ => congrArg₂ (· * ·) ((pay16_apply _ _ _).trans (h5 _)) ((ld_k _ _ _ _ _).trans (h6 _ _ _)))
    · rw [ld_v, h7]
      rfl

/-- One group's column of the reference's pooled branch. -/
theorem group_eq (A2 : FVec Ideal S8x8192x512 .f32) (hA : ∀ i, A2 i ≠ ⊤ ∧ A2 i ≠ ⊥) (A12 : FVec Ideal S4x128x128 .f32) (A13 : FVec Ideal S512 .f32) (b : Fin 8) (r : Fin 8192) (k : Fin 512) (g : Fin 4) (e : Fin 128)
    (hg : k.val / 128 = g.val) (he : k.val % 128 = e.val) (col : Fin 128 → Fin 512) (w : Fin 128 → EReal) (q : EReal) (hcol : ∀ d, (col d).val = g.val * 128 + d.val) (hw : ∀ d, w d = A12 (ix3 g d e)) (hq : q = A13 (ix1 k)) :
    (∑ d : Fin 128, pcol A2 b (col d) r.val * w d) * q = rPool (rMean (rCum A2) rPos) A2 A12 A13 (ix3 b r k) := by
  subst hq
  rw [rPool_apply, show (⟨k.val / 128, by omega⟩ : Fin 4) = g from Fin.ext hg, show (⟨k.val % 128, by omega⟩ : Fin 128) = e from Fin.ext he]
  refine congrArg (· * _) (Finset.sum_congr rfl fun d _ => ?_)
  rw [mean_sub A2 hA, hw, show (⟨k.val / 128 * 128 + d.val, by omega⟩ : Fin 512) = col d from Fin.ext (by rw [hcol, ← hg])]

/-- The pooled branch of a block's row. -/
theorem pool_eq (A2 : FVec Ideal S8x8192x512 .f32) (hA : ∀ i, A2 i ≠ ⊤ ∧ A2 i ≠ ⊥) (A12 : FVec Ideal S4x128x128 .f32) (A13 : FVec Ideal S512 .f32) (b : Fin 8) (T : ℕ) (r : Fin 8192) (y : Fin 512) (hr : r.val = T * 512 + y.val)
    (E : FVec Ideal S528x512 .f32) (v22 : FVec Ideal S512x512 .f32) (P14 : Vec Ideal S4x128x128 .bf16) (P15 : Vec Ideal S1x512 .f32)
    (hE : ∀ (o : ℕ) (h : o + y.val < 528) (_ : 1 ≤ o) (k : Fin 512), E (ix2 ⟨o + y.val, h⟩ k) = str A2 b k (r.val + (o - 1)))
    (hv : ∀ k : Fin 512, v22 (ix2 y k) = str A2 b k (r.val + 15)) (h14 : ∀ g d e, P14 (ix3 g d e) = A12 (ix3 g d e)) (h15 : ∀ k, P15 (ix2 0 k) = A13 (ix1 k)) (k : Fin 512) :
    k0_pay15 v22 (k0_pay8 (BitVec.ofNat 32 T) v22 (View.ld (Val := Elt Ideal) (S := S528x512) (e' := EltTy.f32) E (Rect.unit ![15, 0] ![512, 128] inb_S528x512_S512x128_15_0)) (View.ld (Val := Elt Ideal) (S := S4x128x128) (e' := EltTy.bf16) P14 (Rect.unit ![0, 0, 0] ![1, 128, 128] inb_S4x128x128_S1x128x128_0_0_0))) (k0_pay10 (k0_pay9 (BitVec.ofNat 32 T) v22 (View.ld (Val := Elt Ideal) (S := S528x512) (e' := EltTy.f32) E (Rect.unit ![15, 128] ![512, 128] inb_S528x512_S512x128_15_128)) (View.ld (Val := Elt Ideal) (S := S528x512) (e' := EltTy.f32) E (Rect.unit ![14, 128] ![512, 128] inb_S528x512_S512x128_14_128)) (View.ld (Val := Elt Ideal) (S := S528x512) (e' := EltTy.f32) E (Rect.unit ![13, 128] ![512, 128] inb_S528x512_S512x128_13_128))) (View.ld (Val := Elt Ideal) (S := S4x128x128) (e' := EltTy.bf16) P14 (Rect.unit ![1, 0, 0] ![1, 128, 128] inb_S4x128x128_S1x128x128_1_0_0)))
      (k0_pay11 v22 (k0_pay7 (BitVec.ofNat 32 T)) (View.ld (Val := Elt Ideal) (S := S528x512) (e' := EltTy.f32) E (Rect.unit ![15, 256] ![512, 128] inb_S528x512_S512x128_15_256)) (View.ld (Val := Elt Ideal) (S := S528x512) (e' := EltTy.f32) E (Rect.unit ![14, 256] ![512, 128] inb_S528x512_S512x128_14_256)) (View.ld (Val := Elt Ideal) (S := S528x512) (e' := EltTy.f32) E (Rect.unit ![13, 256] ![512, 128] inb_S528x512_S512x128_13_256)) (View.ld (Val := Elt Ideal) (S := S528x512) (e' := EltTy.f32) E (Rect.unit ![12, 256] ![512, 128] inb_S528x512_S512x128_12_256)) (View.ld (Val := Elt Ideal) (S := S528x512) (e' := EltTy.f32) E (Rect.unit ![11, 256] ![512, 128] inb_S528x512_S512x128_11_256)) (View.ld (Val := Elt Ideal) (S := S528x512) (e' := EltTy.f32) E (Rect.unit ![10, 256] ![512, 128] inb_S528x512_S512x128_10_256)) (View.ld (Val := Elt Ideal) (S := S528x512) (e' := EltTy.f32) E (Rect.unit ![9, 256] ![512, 128] inb_S528x512_S512x128_9_256)) (View.ld (Val := Elt Ideal) (S := S4x128x128) (e' := EltTy.bf16) P14 (Rect.unit ![2, 0, 0] ![1, 128, 128] inb_S4x128x128_S1x128x128_2_0_0)))
      (k0_pay13 (k0_pay12 v22 (View.ld (Val := Elt Ideal) (S := S528x512) (e' := EltTy.f32) E (Rect.unit ![15, 384] ![512, 128] inb_S528x512_S512x128_15_384))) (View.ld (Val := Elt Ideal) (S := S528x512) (e' := EltTy.f32) E (Rect.unit ![14, 384] ![512, 128] inb_S528x512_S512x128_14_384)) (View.ld (Val := Elt Ideal) (S := S528x512) (e' := EltTy.f32) E (Rect.unit ![13, 384] ![512, 128] inb_S528x512_S512x128_13_384)) (View.ld (Val := Elt Ideal) (S := S528x512) (e' := EltTy.f32) E (Rect.unit ![12, 384] ![512, 128] inb_S528x512_S512x128_12_384)) (View.ld (Val := Elt Ideal) (S := S528x512) (e' := EltTy.f32) E (Rect.unit ![11, 384] ![512, 128] inb_S528x512_S512x128_11_384)) (View.ld (Val := Elt Ideal) (S := S528x512) (e' := EltTy.f32) E (Rect.unit ![10, 384] ![512, 128] inb_S528x512_S512x128_10_384)) (View.ld (Val := Elt Ideal) (S := S528x512) (e' := EltTy.f32) E (Rect.unit ![9, 384] ![512, 128] inb_S528x512_S512x128_9_384)) (View.ld (Val := Elt Ideal) (S := S528x512) (e' := EltTy.f32) E (Rect.unit ![8, 384] ![512, 128] inb_S528x512_S512x128_8_384)) (View.ld (Val := Elt Ideal) (S := S528x512) (e' := EltTy.f32) E (Rect.unit ![7, 384] ![512, 128] inb_S528x512_S512x128_7_384)) (View.ld (Val := Elt Ideal) (S := S528x512) (e' := EltTy.f32) E (Rect.unit ![6, 384] ![512, 128] inb_S528x512_S512x128_6_384)) (View.ld (Val := Elt Ideal) (S := S528x512) (e' := EltTy.f32) E (Rect.unit ![5, 384] ![512, 128] inb_S528x512_S512x128_5_384)) (View.ld (Val := Elt Ideal) (S := S528x512) (e' := EltTy.f32) E (Rect.unit ![4, 384] ![512, 128] inb_S528x512_S512x128_4_384)) (View.ld (Val := Elt Ideal) (S := S528x512) (e' := EltTy.f32) E (Rect.unit ![3, 384] ![512, 128] inb_S528x512_S512x128_3_384)) (View.ld (Val := Elt Ideal) (S := S528x512) (e' := EltTy.f32) E (Rect.unit ![2, 384] ![512, 128] inb_S528x512_S512x128_2_384)) (View.ld (Val := Elt Ideal) (S := S528x512) (e' := EltTy.f32) E (Rect.unit ![1, 384] ![512, 128] inb_S528x512_S512x128_1_384))) (k0_pay14 (k0_pay7 (BitVec.ofNat 32 T))) 16#32 (View.ld (Val := Elt Ideal) (S := S4x128x128) (e' := EltTy.bf16) P14 (Rect.unit ![3, 0, 0] ![1, 128, 128] inb_S4x128x128_S1x128x128_3_0_0)) P15 (ix2 y k)
      = rPool (rMean (rCum A2) rPos) A2 A12 A13 (ix3 b r k) := by
  have hk := k.isLt
  rw [pay15_apply]
  by_cases c0 : k.val < 128
  · rw [dif_pos c0, grp0 A2 b T E v22 r.val y hr hE hv]
    refine group_eq A2 hA A12 A13 b r k 0 ⟨k.val, c0⟩ (by show k.val / 128 = 0; omega) (by show k.val % 128 = k.val; omega) _ _ _ (fun d => ?_) (fun d => ?_) (h15 k)
    · show d.val = 0 * 128 + d.val
      omega
    · rw [ld_w, h14]
      rfl
  by_cases c1 : k.val - 128 < 128
  · rw [dif_neg c0, dif_pos c1, grp1 A2 b T E v22 r.val y hr hE hv]
    refine group_eq A2 hA A12 A13 b r k 1 ⟨k.val - 128, c1⟩ (by show k.val / 128 = 1; omega) (by show k.val % 128 = k.val - 128; omega) _ _ _ (fun d => ?_) (fun d => ?_) (h15 k)
    · rfl
    · rw [ld_w, h14]
      rfl
  by_cases c2 : k.val - 128 - 128 < 128
  · rw [dif_neg c0, dif_neg c1, dif_pos c2, grp2 A2 b T E v22 r.val y hr hE hv]
    refine group_eq A2 hA A12 A13 b r k 2 ⟨k.val - 128 - 128, c2⟩ (by show k.val / 128 = 2; omega) (by show k.val % 128 = k.val - 128 - 128; omega) _ _ _ (fun d => ?_) (fun d => ?_) (h15 k)
    · rfl
    · rw [ld_w, h14]
      rfl
  · rw [dif_neg c0, dif_neg c1, dif_neg c2]
    simp only [grp3 A2 b T E v22 r.val y hr hE hv]
    refine group_eq A2 hA A12 A13 b r k 3 ⟨k.val - 128 - 128 - 128, by omega⟩ (by show k.val / 128 = 3; omega) (by show k.val % 128 = k.val - 128 - 128 - 128; omega) _ _ _ (fun d => ?_) (fun d => ?_) (h15 k)
    · rfl
    · rw [ld_w, h14]
      rfl

section point
variable (m : (ℓ : Loc nD τ sig) → Buf (Elt Ideal) ℓ) (c : Dev nD) (t : Fin cfg0.N)

/-- The rows a block's window sums reach are the stream's. -/
theorem ext_eq (b : Fin 8) (hb : b.val = t.val / 16) (y : Fin 512) (r : Fin 8192) (hr : r.val = t.val % 16 * 512 + y.val) (o : ℕ) (h : o + y.val < 528) (ho : 1 ≤ o) (k : Fin 512) :
    ext (k0_pay5 (grid0.coords t) (iblk m c 4 t) (iblk m c 3 t)) (k0_pay6 (k0_pay4 (iblk m c 2 t))) (ix2 ⟨o + y.val, h⟩ k)
      = str (m (c.tc.loc main_arg2)) b k (r.val + (o - 1)) := by
  have hy := y.isLt
  have hT : t.val % 16 < 16 := Nat.mod_lt _ (by norm_num)
  unfold ext
  by_cases c0 : o + y.val < 16
  · rw [dif_pos (by exact c0)]
    refine (pay5_apply _ _ _ ⟨o + y.val, c0⟩ k).trans ?_
    rw [(idx t).2.2.2.2.2.2.2.2.2, sel_eq _ hT]
    by_cases c1 : t.val % 16 = 0
    · rw [if_pos c1, blk4, str, dif_neg (by omega)]
    · rw [if_neg c1, blk3 m c t b hb ⟨o + y.val, c0⟩ ⟨(32 * (t.val % 16) - 1) * 16 + (o + y.val), by omega⟩ rfl, str, dif_pos (by omega)]
      refine congrArg (fun q => m (c.tc.loc main_arg2) (ix3 b q k)) (Fin.ext ?_)
      show (32 * (t.val % 16) - 1) * 16 + (o + y.val) = r.val + (o - 1) - 15
      omega
  · rw [dif_neg (by exact c0)]
    refine (pay6_apply _ ⟨o + y.val - 16, by omega⟩ k).trans ?_
    have hlt : t.val % 16 * 512 + (o + y.val - 16) < 8192 := by omega
    rw [pay4_apply, blk2 m c t b hb ⟨o + y.val - 16, by omega⟩ ⟨t.val % 16 * 512 + (o + y.val - 16), hlt⟩ rfl, str, dif_pos (by omega)]
    refine congrArg (fun q => m (c.tc.loc main_arg2) (ix3 b q k)) (Fin.ext ?_)
    show t.val % 16 * 512 + (o + y.val - 16) = r.val + (o - 1) - 15
    omega

/-- A point's rows of the result are the reference's. -/
theorem out_eq (hA : ∀ i, m (c.tc.loc main_arg2) i ≠ (⊤ : EReal) ∧ m (c.tc.loc main_arg2) i ≠ (⊥ : EReal)) (b : Fin 8) (hb : b.val = t.val / 16) (y : Fin 512) (r : Fin 8192) (hr : r.val = t.val % 16 * 512 + y.val) (e : Fin 1024) :
    outsAt0 m c t (ix3 0 y e)
      = rOut (m (c.tc.loc main_arg0)) (rGate (m (c.tc.loc main_arg0)) (m (c.tc.loc main_arg6)) (m (c.tc.loc main_arg7))) (m (c.tc.loc main_arg1))
          (rPool (rMean (rCum (m (c.tc.loc main_arg2))) rPos) (m (c.tc.loc main_arg2)) (m (c.tc.loc main_arg12)) (m (c.tc.loc main_arg13)))
          (rMem (m (c.tc.loc main_arg5)) (rExp (rLogit (m (c.tc.loc main_arg3)) (m (c.tc.loc main_arg4))) (rTop (rLogit (m (c.tc.loc main_arg3)) (m (c.tc.loc main_arg4))))))
          (m (c.tc.loc main_arg8)) (m (c.tc.loc main_arg9)) (m (c.tc.loc main_arg10)) (m (c.tc.loc main_arg11)) (ix3 b r e) := by
  unfold outsAt0 out0_A_16
  frame_open
  simp (disch := decide) only [↓ View.readCov_skip, ↓ View.readCov_cons_toLoadRect, ↓ View.readCov_fill]
  frame_out
  simp only [read_ext]
  have hE := ext_eq m c t b hb y r hr
  generalize ext (k0_pay5 (grid0.coords t) (iblk m c 4 t) (iblk m c 3 t)) (k0_pay6 (k0_pay4 (iblk m c 2 t))) = E at hE ⊢
  have hv : ∀ k : Fin 512, k0_pay4 (iblk m c 2 t) (ix2 y k) = str (m (c.tc.loc main_arg2)) b k (r.val + 15) := fun k => by
    rw [pay4_apply, blk2 m c t b hb y r hr, str_tok]
  have hg : ∀ j, k0_pay3 (iblk m c 0 t) (iblk m c 8 t) (iblk m c 9 t) (ix2 y j)
      = rGate (m (c.tc.loc main_arg0)) (m (c.tc.loc main_arg6)) (m (c.tc.loc main_arg7)) (ix3 b r j) := fun j => by
    rw [pay3_apply, rGate_apply]
    simp only [blk0 m c t b hb y r hr, blk8, blk9]
  rw [(idx t).2.2.2.2.2.2.2.2.2, rOut_apply, pay1_apply, pay2_apply]
  simp only [pay21_apply]
  have hp := pool_eq (m (c.tc.loc main_arg2)) hA (m (c.tc.loc main_arg12)) (m (c.tc.loc main_arg13)) b (t.val % 16) r y hr E _ _ _ hE hv (blk14 m c t) (blk15 m c t)
  have hm := mem_eq (m (c.tc.loc main_arg3)) (m (c.tc.loc main_arg4)) (m (c.tc.loc main_arg5)) b r y _ _ _ (blk5 m c t b hb y r hr) (blk6 m c t b hb) (blk7 m c t b hb)
  refine congrArg₂ (· + ·) (blk0 m c t b hb y r hr e) (Finset.sum_congr rfl fun j _ => ?_)
  refine congrArg₂ (· * ·) (congrArg₂ (· + ·) (congrArg₂ (· + ·) (congrArg₂ (· * ·) (hg _) (Finset.sum_congr rfl fun k _ => ?_)) (congrArg₂ (· * ·) (hg _) (Finset.sum_congr rfl fun k _ => ?_)))
    (congrArg₂ (· * ·) (hg _) (Finset.sum_congr rfl fun k _ => ?_))) (blk13 m c t j e)
  · exact congrArg₂ (· * ·) (blk1 m c t b hb y r hr k) (blk10 m c t k j)
  · exact congrArg₂ (· * ·) (hp k) (blk11 m c t k j)
  · exact congrArg₂ (· * ·) (hm k) (blk12 m c t k j)

end point

/-- The one fact the precondition's program states. -/
theorem preFacts : Cert.Pre_pooled_finite.Facts := ⟨by decide⟩

/-- The precondition, read at an entry of the pooled stream: it is a finite number. -/
theorem finite (m : (ℓ : Loc nD τ sig) → Buf (Elt Ideal) ℓ)
    (h : Cert.Pre_MergeIdeal_pooled_finite (hPre_pooled_finite := preFacts) m) (c : Dev nD) (i : S8x8192x512.Idx) :
    m (c.tc.loc main_arg2) i ≠ (⊤ : EReal) ∧ m (c.tc.loc main_arg2) i ≠ (⊥ : EReal) := by
  have h1 := congrFun (h c) i
  have h2 : Scalar.andi (Ideal.cmp .olt (m (c.tc.loc main_arg2) i) (Ideal.ofBits .f32 0x7F800000#32))
      (Ideal.cmp .ogt (m (c.tc.loc main_arg2) i) (Ideal.ofBits .f32 0xFF800000#32)) = 1#1 := h1
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h2
  refine ⟨fun e => ?_, fun e => ?_⟩ <;> rw [e] at h2 <;> simp [Ideal.cmp, Scalar.andi, IntOp.andi] at h2

/-- The result's array after the run is the reference's. -/
theorem result (m : (ℓ : Loc nD τ sig) → Buf (Elt Ideal) ℓ) (c : Dev nD) (hA : ∀ i, m (c.tc.loc main_arg2) i ≠ (⊤ : EReal) ∧ m (c.tc.loc main_arg2) i ≠ (⊥ : EReal)) :
    (dats m 0 c).arrAt 16 cfg0.N = rOut (m (c.tc.loc main_arg0)) (rGate (m (c.tc.loc main_arg0)) (m (c.tc.loc main_arg6)) (m (c.tc.loc main_arg7))) (m (c.tc.loc main_arg1))
          (rPool (rMean (rCum (m (c.tc.loc main_arg2))) rPos) (m (c.tc.loc main_arg2)) (m (c.tc.loc main_arg12)) (m (c.tc.loc main_arg13)))
          (rMem (m (c.tc.loc main_arg5)) (rExp (rLogit (m (c.tc.loc main_arg3)) (m (c.tc.loc main_arg4))) (rTop (rLogit (m (c.tc.loc main_arg3)) (m (c.tc.loc main_arg4))))))
          (m (c.tc.loc main_arg8)) (m (c.tc.loc main_arg9)) (m (c.tc.loc main_arg10)) (m (c.tc.loc main_arg11)) := by
  have hN : cfg0.N = 128 := rfl
  have key : ∀ (t : Fin cfg0.N) (y0 : Fin 1) (y1 : Fin 512) (y2 : Fin 1024), outsAt0 m c t (ix3 y0 y1 y2) = rOut (m (c.tc.loc main_arg0)) (rGate (m (c.tc.loc main_arg0)) (m (c.tc.loc main_arg6)) (m (c.tc.loc main_arg7))) (m (c.tc.loc main_arg1))
          (rPool (rMean (rCum (m (c.tc.loc main_arg2))) rPos) (m (c.tc.loc main_arg2)) (m (c.tc.loc main_arg12)) (m (c.tc.loc main_arg13)))
          (rMem (m (c.tc.loc main_arg5)) (rExp (rLogit (m (c.tc.loc main_arg3)) (m (c.tc.loc main_arg4))) (rTop (rLogit (m (c.tc.loc main_arg3)) (m (c.tc.loc main_arg4))))))
          (m (c.tc.loc main_arg8)) (m (c.tc.loc main_arg9)) (m (c.tc.loc main_arg10)) (m (c.tc.loc main_arg11)) (((cfg0.win 16).blk t).view.emb (ix3 y0 y1 y2)) := fun t y0 y1 y2 => by
    obtain rfl : y0 = 0 := Subsingleton.elim _ _
    have ht : t.val < 128 := by rw [← hN]; exact t.isLt
    rw [emb16 t ⟨t.val / 16, by omega⟩ rfl y1 ⟨t.val % 16 * 512 + y1.val, by omega⟩ rfl y2]
    exact out_eq m c t hA ⟨t.val / 16, by omega⟩ rfl y1 ⟨t.val % 16 * 512 + y1.val, by omega⟩ rfl y2
  generalize rOut _ _ _ _ _ _ _ _ _ = R at key ⊢
  refine (dats m 0 c).arrAt_eq_of_covers 16 _ (by decide +kernel) fun t hf y => ?_
  rw [after0_16]
  idx_vars y
  have k := key t y0 y1 y2
  clear key
  generalize outsAt0 m c t = O at k ⊢
  refine Eq.trans ?_ k
  exact congrArg O (show (win0 16).xinj (grid0.coords t) (ix3 y0 y1 y2) = ix3 y0 y1 y2 from rfl)

set_option maxHeartbeats 4000000 in
/-- The value claim of the merge call: at the extended reals its result is the plain reference's, for a finite pooled stream. -/
theorem algebraic : Cert.algebraic_MergeIdeal_MergeRefIdeal_pre_pooled_finite (hPre_pooled_finite := preFacts) := by
  pair_intro
  · run_from run_main m g
    exact hc.1 16
  · run_from Cert.MergeRefIdeal.Value.run m' g'
    rw [result m c (finite m hpre c), ref_eq]
    obtain ⟨h0, h1, h2, h3, h4, h5, h6, h7, h8, h9, h10, h11, h12, h13⟩ := hagree c
    rw [h0, h1, h2, h3, h4, h5, h6, h7, h8, h9, h10, h11, h12, h13]

end Cert.MergeVal
end
-- ==== Proof.Val.ProjRef.lean ====
/- The projection call's plain reference, entry by entry: the normalised rows' product with the weights, and of its columns the
   keys (normalised and turned), the values, the index keys with their weights, the pooled stream and the memory queries. -/
module

public import proofs.«01_k».proof.Defs
public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal

/-- One entry of a row normalised by its mean square, where `D` is the row's length. -/
def rn {n : ℕ} (D : BitVec 32) (x g : Fin n → EReal) (d : Fin n) : EReal :=
  x d * Ideal.rsqrt (Ideal.div (∑ i : Fin n, x i * x i) (Ideal.ofBits .f32 D) + Ideal.ofBits .f32 0x358637BD#32) * g d

/-- The angle at the chunk's token `s`, which 1024 tokens go before, of the pair `i`, where `D` is the number of pairs. -/
def ang (D : BitVec 32) (s i : ℕ) : EReal :=
  FloatOps.sitofp (F := Ideal) .f32 (IntOp.addi 1024#32 (BitVec.ofNat 32 s)) * Ideal.pow (Ideal.ofBits .f32 0x461C4000#32) (Ideal.div (-(FloatOps.sitofp (F := Ideal) .f32 (BitVec.ofNat 32 i))) (Ideal.ofBits .f32 D))

section reference
open Cert.ProjRefIdeal Cert.ProjRefIdeal.Gen

/-- The normalised rows' product with the weights. -/
def rP (A0 : FVec Ideal S16x64x1024 .f32) (A1 : FVec Ideal S1024 .f32) (A2 : FVec Ideal S1024x5160 .f32) : FVec Ideal S16x64x5160 .f32 :=
  Host.dotGeneral dot_S16x64x1024_S1024x5160_S16x64x5160_2_0_01_1_n_n none (mulf (mulf A0 (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf A0 A0) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 A1))) A2

/-- The cosines of a key's pairs. -/
def rCA  : FVec Ideal S64x32 .f32 :=
  Host.cos (mulf (broadcastInDim S64x32 ![0, 1] bcast_S64x1_S64x32_0_1 (broadcastInDim S64x1 ![0] bcast_S64_S64x1_0 (sitofp .f32 (addi (broadcastInDim S64 ![] bcast_S_S64 (constantI S_ 32 1024#32)) (iotaInDim S64 32 0))))) (broadcastInDim S64x32 ![0, 1] bcast_S1x32_S64x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The sines of a key's pairs. -/
def rSA  : FVec Ideal S64x32 .f32 :=
  Host.sin (mulf (broadcastInDim S64x32 ![0, 1] bcast_S64x1_S64x32_0_1 (broadcastInDim S64x1 ![0] bcast_S64_S64x1_0 (sitofp .f32 (addi (broadcastInDim S64 ![] bcast_S_S64 (constantI S_ 32 1024#32)) (iotaInDim S64 32 0))))) (broadcastInDim S64x32 ![0, 1] bcast_S1x32_S64x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The cosines of an index key's pairs. -/
def rCI  : FVec Ideal S64x16 .f32 :=
  Host.cos (mulf (broadcastInDim S64x16 ![0, 1] bcast_S64x1_S64x16_0_1 (broadcastInDim S64x1 ![0] bcast_S64_S64x1_0 (sitofp .f32 (addi (broadcastInDim S64 ![] bcast_S_S64 (constantI S_ 32 1024#32)) (iotaInDim S64 32 0))))) (broadcastInDim S64x16 ![0, 1] bcast_S1x16_S64x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))

/-- The sines of an index key's pairs. -/
def rSI  : FVec Ideal S64x16 .f32 :=
  Host.sin (mulf (broadcastInDim S64x16 ![0, 1] bcast_S64x1_S64x16_0_1 (broadcastInDim S64x1 ![0] bcast_S64_S64x1_0 (sitofp .f32 (addi (broadcastInDim S64 ![] bcast_S_S64 (constantI S_ 32 1024#32)) (iotaInDim S64 32 0))))) (broadcastInDim S64x16 ![0, 1] bcast_S1x16_S64x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))

/-- The keys, normalised. -/
def rNA (P : FVec Ideal S16x64x5160 .f32) (A4 : FVec Ideal S64 .f32) : FVec Ideal S16x64x2x64 .f32 :=
  mulf (mulf (shapeCast S16x64x2x64 (extractStridedSlice S16x64x128 ![0, 0, 512] P slices_S16x64x5160_S16x64x128_0_0_512) shapeCasts_S16x64x128_S16x64x2x64) (broadcastInDim S16x64x2x64 ![0, 1, 2, 3] bcast_S16x64x2x1_S16x64x2x64_0_1_2_3 (Host.rsqrt (addf (Host.divf (broadcastInDim S16x64x2x1 ![0, 1, 2] bcast_S16x64x2_S16x64x2x1_0_1_2 (Host.reduceAdd (mulf (shapeCast S16x64x2x64 (extractStridedSlice S16x64x128 ![0, 0, 512] P slices_S16x64x5160_S16x64x128_0_0_512) shapeCasts_S16x64x128_S16x64x2x64) (shapeCast S16x64x2x64 (extractStridedSlice S16x64x128 ![0, 0, 512] P slices_S16x64x5160_S16x64x128_0_0_512) shapeCasts_S16x64x128_S16x64x2x64)) (constant S_ .f32 0x00000000#32) reducesTo_S16x64x2x64_S16x64x2_d3 h_S_)) (broadcastInDim S16x64x2x1 ![] bcast_S_S16x64x2x1 (constant S_ .f32 0x42800000#32))) (broadcastInDim S16x64x2x1 ![] bcast_S_S16x64x2x1 (constant S_ .f32 0x358637BD#32)))))) (broadcastInDim S16x64x2x64 ![0, 1, 2, 3] bcast_S1x1x1x64_S16x64x2x64_0_1_2_3 (broadcastInDim S1x1x1x64 ![3] bcast_S64_S1x1x1x64_3 A4))

/-- The keys, turned. -/
def rKa (N : FVec Ideal S16x64x2x64 .f32) (C S : FVec Ideal S64x32 .f32) : FVec Ideal S1024x2x64 .f32 :=
  shapeCast S1024x2x64 (concatenate S16x64x2x64 3 [⟨S16x64x2x32, (subf (mulf (extractStridedSlice S16x64x2x32 ![0, 0, 0, 0] N slices_S16x64x2x64_S16x64x2x32_0_0_0_0) (broadcastInDim S16x64x2x32 ![0, 1, 2, 3] bcast_S1x64x1x32_S16x64x2x32_0_1_2_3 (broadcastInDim S1x64x1x32 ![1, 3] bcast_S64x32_S1x64x1x32_1_3 C))) (mulf (extractStridedSlice S16x64x2x32 ![0, 0, 0, 32] N slices_S16x64x2x64_S16x64x2x32_0_0_0_32) (broadcastInDim S16x64x2x32 ![0, 1, 2, 3] bcast_S1x64x1x32_S16x64x2x32_0_1_2_3 (broadcastInDim S1x64x1x32 ![1, 3] bcast_S64x32_S1x64x1x32_1_3 S))))⟩, ⟨S16x64x2x32, (addf (mulf (extractStridedSlice S16x64x2x32 ![0, 0, 0, 32] N slices_S16x64x2x64_S16x64x2x32_0_0_0_32) (broadcastInDim S16x64x2x32 ![0, 1, 2, 3] bcast_S1x64x1x32_S16x64x2x32_0_1_2_3 (broadcastInDim S1x64x1x32 ![1, 3] bcast_S64x32_S1x64x1x32_1_3 C))) (mulf (extractStridedSlice S16x64x2x32 ![0, 0, 0, 0] N slices_S16x64x2x64_S16x64x2x32_0_0_0_0) (broadcastInDim S16x64x2x32 ![0, 1, 2, 3] bcast_S1x64x1x32_S16x64x2x32_0_1_2_3 (broadcastInDim S1x64x1x32 ![1, 3] bcast_S64x32_S1x64x1x32_1_3 S))))⟩] concatenates_S16x64x2x32_S16x64x2x32_S16x64x2x64_d3) shapeCasts_S16x64x2x64_S1024x2x64

/-- The index keys, normalised. -/
def rNI (P : FVec Ideal S16x64x5160 .f32) (A5 : FVec Ideal S32 .f32) : FVec Ideal S16x64x32 .f32 :=
  mulf (mulf (extractStridedSlice S16x64x32 ![0, 0, 1024] P slices_S16x64x5160_S16x64x32_0_0_1024) (broadcastInDim S16x64x32 ![0, 1, 2] bcast_S16x64x1_S16x64x32_0_1_2 (Host.rsqrt (addf (Host.divf (broadcastInDim S16x64x1 ![0, 1] bcast_S16x64_S16x64x1_0_1 (Host.reduceAdd (mulf (extractStridedSlice S16x64x32 ![0, 0, 1024] P slices_S16x64x5160_S16x64x32_0_0_1024) (extractStridedSlice S16x64x32 ![0, 0, 1024] P slices_S16x64x5160_S16x64x32_0_0_1024)) (constant S_ .f32 0x00000000#32) reducesTo_S16x64x32_S16x64_d2 h_S_)) (broadcastInDim S16x64x1 ![] bcast_S_S16x64x1 (constant S_ .f32 0x42000000#32))) (broadcastInDim S16x64x1 ![] bcast_S_S16x64x1 (constant S_ .f32 0x358637BD#32)))))) (broadcastInDim S16x64x32 ![0, 1, 2] bcast_S1x1x32_S16x64x32_0_1_2 (broadcastInDim S1x1x32 ![2] bcast_S32_S1x1x32_2 A5))

/-- The index keys, turned. -/
def rRI (N : FVec Ideal S16x64x32 .f32) (C S : FVec Ideal S64x16 .f32) : FVec Ideal S16x64x32 .f32 :=
  shapeCast S16x64x32 (concatenate S16x64x1x32 3 [⟨S16x64x1x16, (subf (mulf (extractStridedSlice S16x64x1x16 ![0, 0, 0, 0] (broadcastInDim S16x64x1x32 ![0, 1, 3] bcast_S16x64x32_S16x64x1x32_0_1_3 N) slices_S16x64x1x32_S16x64x1x16_0_0_0_0) (broadcastInDim S16x64x1x16 ![0, 1, 2, 3] bcast_S1x64x1x16_S16x64x1x16_0_1_2_3 (broadcastInDim S1x64x1x16 ![1, 3] bcast_S64x16_S1x64x1x16_1_3 C))) (mulf (extractStridedSlice S16x64x1x16 ![0, 0, 0, 16] (broadcastInDim S16x64x1x32 ![0, 1, 3] bcast_S16x64x32_S16x64x1x32_0_1_3 N) slices_S16x64x1x32_S16x64x1x16_0_0_0_16) (broadcastInDim S16x64x1x16 ![0, 1, 2, 3] bcast_S1x64x1x16_S16x64x1x16_0_1_2_3 (broadcastInDim S1x64x1x16 ![1, 3] bcast_S64x16_S1x64x1x16_1_3 S))))⟩, ⟨S16x64x1x16, (addf (mulf (extractStridedSlice S16x64x1x16 ![0, 0, 0, 16] (broadcastInDim S16x64x1x32 ![0, 1, 3] bcast_S16x64x32_S16x64x1x32_0_1_3 N) slices_S16x64x1x32_S16x64x1x16_0_0_0_16) (broadcastInDim S16x64x1x16 ![0, 1, 2, 3] bcast_S1x64x1x16_S16x64x1x16_0_1_2_3 (broadcastInDim S1x64x1x16 ![1, 3] bcast_S64x16_S1x64x1x16_1_3 C))) (mulf (extractStridedSlice S16x64x1x16 ![0, 0, 0, 0] (broadcastInDim S16x64x1x32 ![0, 1, 3] bcast_S16x64x32_S16x64x1x32_0_1_3 N) slices_S16x64x1x32_S16x64x1x16_0_0_0_0) (broadcastInDim S16x64x1x16 ![0, 1, 2, 3] bcast_S1x64x1x16_S16x64x1x16_0_1_2_3 (broadcastInDim S1x64x1x16 ![1, 3] bcast_S64x16_S1x64x1x16_1_3 S))))⟩] concatenates_S16x64x1x16_S16x64x1x16_S16x64x1x32_d3) shapeCasts_S16x64x1x32_S16x64x32

/-- The index keys and their weights beside one another. -/
def rKw (P : FVec Ideal S16x64x5160 .f32) (R : FVec Ideal S16x64x32 .f32) : FVec Ideal S1024x128 .f32 :=
  shapeCast S1024x128 ((concatenate S16x64x128 2 [⟨S16x64x32, (R : (⟨S16x64x32, .f32⟩ : BufTy).Contents (Elt Ideal))⟩, ⟨S16x64x8, ((mulf (extractStridedSlice S16x64x8 ![0, 0, 1056] P slices_S16x64x5160_S16x64x8_0_0_1056) (broadcastInDim S16x64x8 ![] bcast_S_S16x64x8 (constant S_ .f32 0x3D800000#32))) : (⟨S16x64x8, .f32⟩ : BufTy).Contents (Elt Ideal))⟩, ⟨S16x64x88, ((broadcastInDim S16x64x88 ![] bcast_S_S16x64x88 (constant (F := Ideal) S_ .f32 0x00000000#32)) : (⟨S16x64x88, .f32⟩ : BufTy).Contents (Elt Ideal))⟩] concatenates_S16x64x32_S16x64x8_S16x64x88_S16x64x128_d2 : (⟨S16x64x128, .f32⟩ : BufTy).Contents (Elt Ideal))) shapeCasts_S16x64x128_S1024x128

/-- The values. -/
def rVa (P : FVec Ideal S16x64x5160 .f32) : FVec Ideal S1024x2x64 .f32 :=
  shapeCast S1024x2x64 (shapeCast S16x64x2x64 (extractStridedSlice S16x64x128 ![0, 0, 640] P slices_S16x64x5160_S16x64x128_0_0_640) shapeCasts_S16x64x128_S16x64x2x64) shapeCasts_S16x64x2x64_S1024x2x64

/-- The pooled stream. -/
def rUb (P : FVec Ideal S16x64x5160 .f32) : FVec Ideal S1024x512 .f32 :=
  shapeCast S1024x512 (extractStridedSlice S16x64x512 ![0, 0, 1064] P slices_S16x64x5160_S16x64x512_0_0_1064) shapeCasts_S16x64x512_S1024x512

/-- The memory queries. -/
def rQm (P : FVec Ideal S16x64x5160 .f32) (A6 : FVec Ideal S128 .f32) : FVec Ideal S1024x512 .bf16 :=
  truncf .bf16 (shapeCast S1024x512 (mulf (mulf (shapeCast S16x64x4x128 (extractStridedSlice S16x64x512 ![0, 0, 1576] P slices_S16x64x5160_S16x64x512_0_0_1576) shapeCasts_S16x64x512_S16x64x4x128) (broadcastInDim S16x64x4x128 ![0, 1, 2, 3] bcast_S16x64x4x1_S16x64x4x128_0_1_2_3 (Host.rsqrt (addf (Host.divf (broadcastInDim S16x64x4x1 ![0, 1, 2] bcast_S16x64x4_S16x64x4x1_0_1_2 (Host.reduceAdd (mulf (shapeCast S16x64x4x128 (extractStridedSlice S16x64x512 ![0, 0, 1576] P slices_S16x64x5160_S16x64x512_0_0_1576) shapeCasts_S16x64x512_S16x64x4x128) (shapeCast S16x64x4x128 (extractStridedSlice S16x64x512 ![0, 0, 1576] P slices_S16x64x5160_S16x64x512_0_0_1576) shapeCasts_S16x64x512_S16x64x4x128)) (constant S_ .f32 0x00000000#32) reducesTo_S16x64x4x128_S16x64x4_d3 h_S_)) (broadcastInDim S16x64x4x1 ![] bcast_S_S16x64x4x1 (constant S_ .f32 0x43000000#32))) (broadcastInDim S16x64x4x1 ![] bcast_S_S16x64x4x1 (constant S_ .f32 0x358637BD#32)))))) (broadcastInDim S16x64x4x128 ![0, 1, 2, 3] bcast_S1x1x1x128_S16x64x4x128_0_1_2_3 (broadcastInDim S1x1x1x128 ![3] bcast_S128_S1x1x1x128_3 A6))) shapeCasts_S16x64x4x128_S1024x512) bitsLt_bf16_f32

/-- The run's first result is the keys, turned. -/
theorem ka_eq (m : (ℓ : Loc nD τ sig) → Buf (Elt Ideal) ℓ) (c : Dev nD) : Cert.ProjRefIdeal.Value.res_main_v132 m c = rKa (rNA (rP (m (c.tc.loc main_arg0)) (m (c.tc.loc main_arg1)) (m (c.tc.loc main_arg2))) (m (c.tc.loc main_arg4))) rCA rSA := rfl

/-- The run's third result is the index keys with their weights. -/
theorem kw_eq (m : (ℓ : Loc nD τ sig) → Buf (Elt Ideal) ℓ) (c : Dev nD) : Cert.ProjRefIdeal.Value.res_main_v134 m c = rKw (rP (m (c.tc.loc main_arg0)) (m (c.tc.loc main_arg1)) (m (c.tc.loc main_arg2))) (rRI (rNI (rP (m (c.tc.loc main_arg0)) (m (c.tc.loc main_arg1)) (m (c.tc.loc main_arg2))) (m (c.tc.loc main_arg5))) rCI rSI) := rfl

/-- The product, entry by entry. -/
theorem rP_apply (A0 : FVec Ideal S16x64x1024 .f32) (A1 : FVec Ideal S1024 .f32) (A2 : FVec Ideal S1024x5160 .f32) (b : Fin 16) (s : Fin 64) (j : Fin 5160) :
    rP A0 A1 A2 (ix3 b s j) = ∑ k : Fin 1024, rn 0x44800000#32 (fun k => A0 (ix3 b s k)) (fun k => A1 (ix1 k)) k * A2 (ix2 k j) := by
  pointwise [rP, rn]

/-- A key's cosine. -/
theorem rCA_apply (s : Fin 64) (i : Fin 32) : rCA (ix2 s i) = Ideal.cos (ang 0x42000000#32 s.val i.val) := by
  pointwise [rCA, ang]

/-- A key's sine. -/
theorem rSA_apply (s : Fin 64) (i : Fin 32) : rSA (ix2 s i) = Ideal.sin (ang 0x42000000#32 s.val i.val) := by
  pointwise [rSA, ang]

/-- An index key's cosine. -/
theorem rCI_apply (s : Fin 64) (i : Fin 16) : rCI (ix2 s i) = Ideal.cos (ang 0x41800000#32 s.val i.val) := by
  pointwise [rCI, ang]

/-- An index key's sine. -/
theorem rSI_apply (s : Fin 64) (i : Fin 16) : rSI (ix2 s i) = Ideal.sin (ang 0x41800000#32 s.val i.val) := by
  pointwise [rSI, ang]

/-- A normalised key. -/
theorem rNA_apply (P : FVec Ideal S16x64x5160 .f32) (A4 : FVec Ideal S64 .f32) (b : Fin 16) (s : Fin 64) (h : Fin 2) (d : Fin 64) :
    rNA P A4 (ix4 b s h d) = rn 0x42800000#32 (fun e => P (ix3 b s ⟨512 + (h.val * 64 + e.val), by omega⟩)) (fun e => A4 (ix1 e)) d := by
  pointwise [rNA, rn]

/-- A turned key. -/
theorem rKa_apply (N : FVec Ideal S16x64x2x64 .f32) (C S : FVec Ideal S64x32 .f32) (r : Fin 1024) (h : Fin 2) (d : Fin 64) :
    rKa N C S (ix3 r h d) = if hd : d.val < 32
      then N (ix4 ⟨r.val / 64, by omega⟩ ⟨r.val % 64, by omega⟩ h d) * C (ix2 ⟨r.val % 64, by omega⟩ ⟨d.val, hd⟩)
        - N (ix4 ⟨r.val / 64, by omega⟩ ⟨r.val % 64, by omega⟩ h ⟨32 + d.val, by omega⟩) * S (ix2 ⟨r.val % 64, by omega⟩ ⟨d.val, hd⟩)
      else N (ix4 ⟨r.val / 64, by omega⟩ ⟨r.val % 64, by omega⟩ h ⟨32 + (d.val - 32), by omega⟩) * C (ix2 ⟨r.val % 64, by omega⟩ ⟨d.val - 32, by omega⟩)
        + N (ix4 ⟨r.val / 64, by omega⟩ ⟨r.val % 64, by omega⟩ h ⟨d.val - 32, by omega⟩) * S (ix2 ⟨r.val % 64, by omega⟩ ⟨d.val - 32, by omega⟩) := by
  pointwise [rKa]

/-- A normalised index key. -/
theorem rNI_apply (P : FVec Ideal S16x64x5160 .f32) (A5 : FVec Ideal S32 .f32) (b : Fin 16) (s : Fin 64) (d : Fin 32) :
    rNI P A5 (ix3 b s d) = rn 0x42000000#32 (fun e => P (ix3 b s ⟨1024 + e.val, by omega⟩)) (fun e => A5 (ix1 e)) d := by
  pointwise [rNI, rn]

/-- A turned index key. -/
theorem rRI_apply (N : FVec Ideal S16x64x32 .f32) (C S : FVec Ideal S64x16 .f32) (b : Fin 16) (s : Fin 64) (d : Fin 32) :
    rRI N C S (ix3 b s d) = if hd : d.val < 16
      then N (ix3 b s d) * C (ix2 s ⟨d.val, hd⟩) - N (ix3 b s ⟨16 + d.val, by omega⟩) * S (ix2 s ⟨d.val, hd⟩)
      else N (ix3 b s ⟨16 + (d.val - 16), by omega⟩) * C (ix2 s ⟨d.val - 16, by omega⟩) + N (ix3 b s ⟨d.val - 16, by omega⟩) * S (ix2 s ⟨d.val - 16, by omega⟩) := by
  pointwise [rRI]

/-- The index keys and their weights, lane by lane. -/
theorem rKw_apply (P : FVec Ideal S16x64x5160 .f32) (R : FVec Ideal S16x64x32 .f32) (r : Fin 1024) (l : Fin 128) :
    rKw P R (ix2 r l) = if h : l.val < 32 then R (ix3 ⟨r.val / 64, by omega⟩ ⟨r.val % 64, by omega⟩ ⟨l.val, h⟩)
      else if h : l.val - 32 < 8 then P (ix3 ⟨r.val / 64, by omega⟩ ⟨r.val % 64, by omega⟩ ⟨1056 + (l.val - 32), by omega⟩) * Ideal.ofBits .f32 0x3D800000#32
      else 0 := by
  pointwise [rKw]

/-- The values, entry by entry. -/
theorem rVa_apply (P : FVec Ideal S16x64x5160 .f32) (r : Fin 1024) (h : Fin 2) (d : Fin 64) :
    rVa P (ix3 r h d) = P (ix3 ⟨r.val / 64, by omega⟩ ⟨r.val % 64, by omega⟩ ⟨640 + (h.val * 64 + d.val), by omega⟩) := by
  pointwise [rVa]

/-- The pooled stream, entry by entry. -/
theorem rUb_apply (P : FVec Ideal S16x64x5160 .f32) (r : Fin 1024) (k : Fin 512) :
    rUb P (ix2 r k) = P (ix3 ⟨r.val / 64, by omega⟩ ⟨r.val % 64, by omega⟩ ⟨1064 + k.val, by omega⟩) := by
  pointwise [rUb]

/-- A memory query. -/
theorem rQm_apply (P : FVec Ideal S16x64x5160 .f32) (A6 : FVec Ideal S128 .f32) (r : Fin 1024) (k : Fin 512) :
    rQm P A6 (ix2 r k) = P (ix3 ⟨r.val / 64, by omega⟩ ⟨r.val % 64, by omega⟩ ⟨1576 + k.val, by omega⟩) * Ideal.rsqrt (Ideal.div (∑ e : Fin 128, P (ix3 ⟨r.val / 64, by omega⟩ ⟨r.val % 64, by omega⟩ ⟨1576 + (k.val / 128 * 128 + e.val), by omega⟩)
      * P (ix3 ⟨r.val / 64, by omega⟩ ⟨r.val % 64, by omega⟩ ⟨1576 + (k.val / 128 * 128 + e.val), by omega⟩)) (Ideal.ofBits .f32 0x43000000#32) + Ideal.ofBits .f32 0x358637BD#32) * A6 (ix1 ⟨k.val % 128, by omega⟩) := by
  pointwise [rQm]

end reference

end Cert.ProjVal

end
-- ==== Proof.Val.ProjKer.lean ====
/- The projection call's kernel, entry by entry: what each value of a grid point's body holds, over its operands. -/
module

public import proofs.«01_k».proof.Proof.Gen.ProjIdeal.Skeleton
public import proofs.«01_k».proof.Proof.Val.ProjRef
public import Idealize.ShloMosaic.Lib.Pipeline.ReadBack

@[expose] public section

set_option maxRecDepth 16384

noncomputable section

open Idealize.ShloMosaic Idealize.ShloMosaic.TcCoe Idealize.SL.Sem

namespace Cert.ProjVal
open Cert.ProjIdeal Cert.ProjIdeal.Gen

/-- The normalised rows' product with the packed weights. -/
theorem prod_apply (v0 : Vec Ideal S64x1024 .f32) (v2 : Vec Ideal S1x1024 .f32) (v17 : Vec Ideal S1024x2176 .bf16) (y : Fin 64) (j : Fin 2176) :
    k0_pay2 v0 v2 v17 (ix2 y j) = ∑ k : Fin 1024, rn 0x44800000#32 (fun k => v0 (ix2 y k)) (fun k => v2 (ix2 0 k)) k * v17 (ix2 k j) := by
  pointwise [k0_pay2, rn]

/-- The keys' squares summed by a block of ones, head by head. -/
theorem ssq_apply (v19 : FVec Ideal S64x2176 .f32) (v29 : FVec Ideal S512x512 .bf16) (y : Fin 64) (l : Fin 128) :
    k0_pay27 v19 v29 (ix2 y l) = (∑ j : Fin 128, v19 (ix2 y ⟨512 + j.val, by omega⟩) * v19 (ix2 y ⟨512 + j.val, by omega⟩) * v29 (ix2 ⟨j.val, by omega⟩ ⟨l.val, by omega⟩))
      + ∑ j : Fin 128, (v19 (ix2 y ⟨512 + j.val, by omega⟩) * v19 (ix2 y ⟨512 + j.val, by omega⟩) - v19 (ix2 y ⟨512 + j.val, by omega⟩) * v19 (ix2 y ⟨512 + j.val, by omega⟩)) * v29 (ix2 ⟨j.val, by omega⟩ ⟨l.val, by omega⟩) := by
  pointwise [k0_pay27, k0_pay26]

/-- Whether a lane is in the first half of its group of 64, as the kernel computes it. -/
theorem first64 : ∀ l : Fin 128, (IntOp.cmpi CmpIPredicate.slt (Scalar.select (IntOp.andi (IntOp.xori (IntOp.cmpi CmpIPredicate.slt (IntOp.remsi ArithUnit.vector (BitVec.ofNat 32 l.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 l.val) (Scalar.select (Scalar.cmpi CmpIPredicate.eq 64#32 0#32) 1#32 64#32)) 0#32)) (IntOp.addi (IntOp.remsi ArithUnit.vector (BitVec.ofNat 32 l.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 l.val) (Scalar.select (Scalar.cmpi CmpIPredicate.eq 64#32 0#32) 1#32 64#32))) 32#32) = if l.val % 64 < 32 then 1#1 else 0#1 := by decide +kernel

/-- Whether a lane is in the first half of its group of 32, as the kernel computes it. -/
theorem first32 : ∀ l : Fin 128, (IntOp.cmpi CmpIPredicate.slt (Scalar.select (IntOp.andi (IntOp.xori (IntOp.cmpi CmpIPredicate.slt (IntOp.remsi ArithUnit.vector (BitVec.ofNat 32 l.val) (Scalar.select (Scalar.cmpi CmpIPredicate.eq 32#32 0#32) 1#32 32#32)) 0#32) (Scalar.cmpi CmpIPredicate.slt (Scalar.select (Scalar.cmpi CmpIPredicate.eq 32#32 0#32) 1#32 32#32) 0#32)) (IntOp.cmpi CmpIPredicate.ne (IntOp.remsi ArithUnit.vector (BitVec.ofNat 32 l.val) (Scalar.select (Scalar.cmpi CmpIPredicate.eq 32#32 0#32) 1#32 32#32)) 0#32)) (IntOp.addi (IntOp.remsi ArithUnit.vector (BitVec.ofNat 32 l.val) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 l.val) (Scalar.select (Scalar.cmpi CmpIPredicate.eq 32#32 0#32) 1#32 32#32))) 16#32) = if l.val % 32 < 16 then 1#1 else 0#1 := by decide +kernel

/-- Whether a lane is one of the first 32, as the kernel computes it. -/
theorem lane32 : ∀ l : Fin 128, IntOp.cmpi CmpIPredicate.slt (BitVec.ofNat 32 l.val) 32#32 = if l.val < 32 then 1#1 else 0#1 := by decide +kernel

/-- A select whose condition is decided. -/
theorem select_ite {p : Prop} [Decidable p] (a b : EReal) : Scalar.select (if p then 1#1 else 0#1) a b = if p then a else b := by
  split <;> rfl

/-- One entry of a key row normalised with a given sum of squares `q` and scale `s`. -/
def kn (v q s g : EReal) : EReal := v * Ideal.rsqrt (q * s + Ideal.ofBits .f32 0x358637BD#32) * g

/-- A turned lane: the lane times its cosine, and its partner, negated for the first half, times its sine. -/
def turn (first : Prop) [Decidable first] (x next prev c s : EReal) : EReal := x * c + (if first then 0 - next else prev) * s

/-- The keys, turned. -/
theorem turn_apply (v21 v23 v237 v246 v247 : FVec Ideal S64x128 .f32) (v253 : Vec Ideal S1x128 .f32) (y : Fin 64) (l : Fin 128) :
    k0_pay29 v21 v23 v237 v246 v247 v253 (ix2 y l) = turn (l.val % 64 < 32) (kn (v237 (ix2 y l)) (v246 (ix2 y l)) (v247 (ix2 y l)) (v253 (ix2 0 l)))
      (kn (v237 (ix2 y ⟨(l.val + 128 - 96) % 128, by omega⟩)) (v246 (ix2 y ⟨(l.val + 128 - 96) % 128, by omega⟩)) (v247 (ix2 y ⟨(l.val + 128 - 96) % 128, by omega⟩)) (v253 (ix2 0 ⟨(l.val + 128 - 96) % 128, by omega⟩)))
      (kn (v237 (ix2 y ⟨(l.val + 128 - 32) % 128, by omega⟩)) (v246 (ix2 y ⟨(l.val + 128 - 32) % 128, by omega⟩)) (v247 (ix2 y ⟨(l.val + 128 - 32) % 128, by omega⟩)) (v253 (ix2 0 ⟨(l.val + 128 - 32) % 128, by omega⟩)))
      (v21 (ix2 y l)) (v23 (ix2 y l)) := by
  pointwise [k0_pay29, turn, kn]
  rw [first64 l, select_ite]

/-- Head 0 of the keys. -/
theorem key0_apply (v21 v23 v237 v246 v247 : FVec Ideal S64x128 .f32) (v253 : Vec Ideal S1x128 .f32) (y d : Fin 64) :
    k0_pay31 v21 v23 v237 v246 v247 v253 (ix3 y 0 d) = k0_pay29 v21 v23 v237 v246 v247 v253 (ix2 y ⟨d.val, by omega⟩) := by
  unfold k0_pay31
  generalize k0_pay29 v21 v23 v237 v246 v247 v253 = K
  pointwise []

/-- Head 1 of the keys. -/
theorem key1_apply (v283 : FVec Ideal S64x128 .f32) (y d : Fin 64) : k0_pay34 v283 (ix3 y 0 d) = v283 (ix2 y ⟨(d.val + 128 - 64) % 128, by omega⟩) := by
  pointwise [k0_pay34]

/-- Head 0 of the values. -/
theorem val0_apply (v19 : FVec Ideal S64x2176 .f32) (y d : Fin 64) : k0_pay33 (k0_pay32 v19) (ix3 y 0 d) = v19 (ix2 y ⟨640 + d.val, by omega⟩) := by
  pointwise [k0_pay33, k0_pay32, k0_pay30]

/-- Head 1 of the values. -/
theorem val1_apply (v19 : FVec Ideal S64x2176 .f32) (y d : Fin 64) : k0_pay35 (k0_pay30 v19) (ix3 y 0 d) = v19 (ix2 y ⟨640 + (d.val + 128 - 64) % 128, by omega⟩) := by
  pointwise [k0_pay35, k0_pay30]

/-- The index keys, normalised with their squares summed by a block of ones. -/
theorem idx_apply (v19 : FVec Ideal S64x2176 .f32) (v304 : Vec Ideal S128x128 .bf16) (v320 : Vec Ideal S1x128 .f32) (y : Fin 64) (l : Fin 128) :
    k0_pay37 v19 v304 v320 (ix2 y l) = kn (v19 (ix2 y ⟨1024 + l.val, by omega⟩)) ((∑ j : Fin 128, v19 (ix2 y ⟨1024 + j.val, by omega⟩) * v19 (ix2 y ⟨1024 + j.val, by omega⟩) * v304 (ix2 j l))
      + ∑ j : Fin 128, (v19 (ix2 y ⟨1024 + j.val, by omega⟩) * v19 (ix2 y ⟨1024 + j.val, by omega⟩) - v19 (ix2 y ⟨1024 + j.val, by omega⟩) * v19 (ix2 y ⟨1024 + j.val, by omega⟩)) * v304 (ix2 j l))
      (Ideal.ofBits .f32 0x3D000000#32) (v320 (ix2 0 l)) := by
  pointwise [k0_pay37, k0_pay36, kn]

/-- The index keys, turned, and the weights beside them, scaled. -/
theorem kw_apply (v25 v27 v303 v323 : FVec Ideal S64x128 .f32) (y : Fin 64) (l : Fin 128) :
    k0_pay38 v25 v27 v303 v323 (iota .tc S64x128 32 [1] iota_S64x128_d1_w32) 32#32 (Scalar.cmpi .eq 32#32 0#32) 1#32 (ix2 y l)
      = if l.val < 32 then turn (l.val % 32 < 16) (v323 (ix2 y l)) (v323 (ix2 y ⟨(l.val + 128 - 112) % 128, by omega⟩)) (v323 (ix2 y ⟨(l.val + 128 - 16) % 128, by omega⟩)) (v25 (ix2 y l)) (v27 (ix2 y l))
        else v303 (ix2 y l) * Ideal.ofBits .f32 0x3D800000#32 := by
  pointwise [k0_pay38, turn]
  rw [lane32 l, select_ite, first32 l, select_ite]

/-- The pooled stream. -/
theorem ub_apply (v19 : FVec Ideal S64x2176 .f32) (y : Fin 64) (k : Fin 512) : k0_pay39 v19 (ix2 y k) = v19 (ix2 y ⟨1152 + k.val, by omega⟩) := by
  pointwise [k0_pay39]

/-- The first head of the memory queries. -/
theorem qm0_apply (v19 : FVec Ideal S64x2176 .f32) (v360 : Vec Ideal S1x128 .f32) (y : Fin 64) (d : Fin 128) :
    k0_pay44 (k0_pay40 v360) (k0_pay41 v19) (k0_pay42 v19) k0_pay43 (ix2 y d) = rn 0x43000000#32 (fun e => v19 (ix2 y ⟨1664 + e.val, by omega⟩)) (fun e => v360 (ix2 0 e)) d := by
  pointwise [k0_pay44, k0_pay40, k0_pay41, k0_pay42, k0_pay43, rn]

/-- The second head. -/
theorem qm1_apply (v19 : FVec Ideal S64x2176 .f32) (v360 : Vec Ideal S1x128 .f32) (y : Fin 64) (d : Fin 128) :
    k0_pay45 v19 (k0_pay40 v360) (ix2 y d) = rn 0x43000000#32 (fun e => v19 (ix2 y ⟨1792 + e.val, by omega⟩)) (fun e => v360 (ix2 0 e)) d := by
  pointwise [k0_pay45, k0_pay40, rn]

/-- The third head. -/
theorem qm2_apply (v19 : FVec Ideal S64x2176 .f32) (v360 : Vec Ideal S1x128 .f32) (y : Fin 64) (d : Fin 128) :
    k0_pay46 v19 (k0_pay40 v360) (ix2 y d) = rn 0x43000000#32 (fun e => v19 (ix2 y ⟨1920 + e.val, by omega⟩)) (fun e => v360 (ix2 0 e)) d := by
  pointwise [k0_pay46, k0_pay40, rn]

/-- The fourth head. -/
theorem qm3_apply (v19 : FVec Ideal S64x2176 .f32) (v360 : Vec Ideal S1x128 .f32) (y : Fin 64) (d : Fin 128) :
    k0_pay1 (k0_pay40 v360) (k0_pay47 v19) (k0_pay48 v19) (ix2 y d) = rn 0x43000000#32 (fun e => v19 (ix2 y ⟨2048 + e.val, by omega⟩)) (fun e => v360 (ix2 0 e)) d := by
  pointwise [k0_pay1, k0_pay40, k0_pay47, k0_pay48, rn]

end Cert.ProjVal

end
-- ==== Proof.Val.ProjMath.lean ====
/- The arithmetic the projection call's kernel replaces: a mean of squares taken as a product with a block of ones. -/
module

public import proofs.«01_k».proof.Proof.Val.ProjKer

@[expose] public section

set_option maxRecDepth 16384

noncomputable section

open Idealize.ShloMosaic Idealize.ShloMosaic.TcCoe Idealize.SL.Sem

namespace Cert.ProjVal

/-- A finite number. -/
def Fin' (a : EReal) : Prop := ∃ r : ℝ, a = (r : EReal)

/-- A number that is neither infinity is finite. -/
theorem fin_of_ne {a : EReal} (h : a ≠ ⊤ ∧ a ≠ ⊥) : Fin' a := ⟨a.toReal, (EReal.coe_toReal h.1 h.2).symm⟩

/-- A product of finite numbers is finite. -/
theorem fin_mul {a b : EReal} (ha : Fin' a) (hb : Fin' b) : Fin' (a * b) := by
  obtain ⟨x, rfl⟩ := ha
  obtain ⟨y, rfl⟩ := hb
  exact ⟨x * y, (EReal.coe_mul x y).symm⟩

/-- A sum of finite numbers is finite. -/
theorem fin_sum {ι : Type} (s : Finset ι) (f : ι → EReal) (h : ∀ i, Fin' (f i)) : Fin' (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- A square is at least zero. -/
theorem sq_nonneg' (a : EReal) : 0 ≤ a * a := by
  induction a with
  | bot => simp
  | top => simp
  | coe r => rw [← EReal.coe_mul]; exact_mod_cast mul_self_nonneg r

/-- The literal 1024. -/
theorem lit1024 : Ideal.ofBits .f32 0x44800000#32 = ((1024 : ℝ) : EReal) := by simp [Ideal.ofBits, Ideal.ieee]; rw [← EReal.coe_mul]; norm_num

/-- The literal 64. -/
theorem lit64 : Ideal.ofBits .f32 0x42800000#32 = ((64 : ℝ) : EReal) := by simp [Ideal.ofBits, Ideal.ieee]; rw [← EReal.coe_mul]; norm_num

/-- The literal 32. -/
theorem lit32 : Ideal.ofBits .f32 0x42000000#32 = ((32 : ℝ) : EReal) := by simp [Ideal.ofBits, Ideal.ieee]; rw [← EReal.coe_mul]; norm_num

/-- The literal 1/64. -/
theorem lit64inv : Ideal.ofBits .f32 0x3C800000#32 = ((1 / 64 : ℝ) : EReal) := by simp [Ideal.ofBits, Ideal.ieee]; rw [← EReal.coe_mul]; norm_num

/-- The literal 1/32. -/
theorem lit32inv : Ideal.ofBits .f32 0x3D000000#32 = ((1 / 32 : ℝ) : EReal) := by simp [Ideal.ofBits, Ideal.ieee]; rw [← EReal.coe_mul]; norm_num

/-- The literal that keeps the root away from zero is a positive number. -/
theorem litEps : ∃ e : ℝ, 0 < e ∧ Ideal.ofBits .f32 0x358637BD#32 = (e : EReal) := by
  refine ⟨_, ?_, by simp [Ideal.ofBits, Ideal.ieee]; rfl⟩
  norm_num

/-- A quotient by a positive number is the product with its reciprocal. -/
theorem div_coe (x : EReal) (r : ℝ) (hr : 0 < r) : Ideal.div x (r : EReal) = x * ((1 / r : ℝ) : EReal) := by
  unfold Ideal.div
  rw [if_neg (by exact_mod_cast hr.ne'), one_div, EReal.coe_inv]

/-- An entry of a normalised row of 1024 numbers is finite where its gain is, whatever the row. -/
theorem rn_fin (x g : Fin 1024 → EReal) (d : Fin 1024) (hg : Fin' (g d)) : Fin' (rn 0x44800000#32 x g d) := by
  obtain ⟨e, he, heq⟩ := litEps
  unfold rn
  refine fin_mul ?_ hg
  rw [heq, lit1024, div_coe _ _ (by norm_num)]
  by_cases h : ∀ i, Fin' (x i)
  · refine fin_mul (h d) ?_
    obtain ⟨q, hq⟩ := fin_sum Finset.univ (fun i => x i * x i) fun i => fin_mul (h i) (h i)
    have h0 : (0 : EReal) ≤ ∑ i, x i * x i := Finset.sum_nonneg fun i _ => sq_nonneg' (x i)
    rw [hq] at h0 ⊢
    have hq0 : 0 ≤ q := by exact_mod_cast h0
    have hp : 0 < q * (1 / 1024) + e := by positivity
    refine ⟨(Real.sqrt (q * (1 / 1024) + e))⁻¹, ?_⟩
    rw [← EReal.coe_mul, ← EReal.coe_add]
    show (if q * (1 / 1024) + e < 0 then ⊥ else if q * (1 / 1024) + e = 0 then ⊤ else (((Real.sqrt (q * (1 / 1024) + e))⁻¹ : ℝ) : EReal)) = _
    rw [if_neg (by linarith), if_neg hp.ne']
  · push Not at h
    obtain ⟨i, hi⟩ := h
    have hs : x i * x i = ⊤ := by
      revert hi
      induction x i with
      | bot => intro _; simp
      | top => intro _; simp
      | coe r => intro hi; exact absurd ⟨r, rfl⟩ hi
    have ht : ∑ j, x j * x j = ⊤ := by
      refine top_le_iff.mp ?_
      rw [← hs]
      exact Finset.single_le_sum (f := fun j => x j * x j) (fun j _ => sq_nonneg' (x j)) (Finset.mem_univ i)
    refine ⟨0, ?_⟩
    rw [ht, EReal.top_mul_coe_of_pos (by norm_num), EReal.top_add_coe]
    show x d * 0 = _
    simp

/-- What rounding leaves of a finite number's square is nothing. -/
theorem sub_self' {a : EReal} (h : Fin' a) : a * a - a * a = 0 := by
  obtain ⟨r, rfl⟩ := h
  rw [← EReal.coe_mul, ← EReal.coe_sub, sub_self, EReal.coe_zero]

/-- A sum against the block of ones of a lane's group of 64 is the sum over the group. -/
theorem sum64 (f : Fin 128 → EReal) (w : Fin 128 → EReal) (h : Fin 2) (hw : ∀ j : Fin 128, w j = if j.val / 64 = h.val then 1 else 0) :
    ∑ j, f j * w j = ∑ e : Fin 64, f ⟨h.val * 64 + e.val, by omega⟩ := by
  rw [show (∑ j : Fin 128, f j * w j) = ∑ j : Fin (64 + 64), f j * w j from rfl, Fin.sum_univ_add]
  have hl : ∀ e : Fin 64, w (Fin.castAdd 64 e) = if 0 = h.val then 1 else 0 := fun e => by
    rw [hw]; congr 1; have := e.isLt; simp [Fin.castAdd]; omega
  have hr : ∀ e : Fin 64, w (Fin.natAdd 64 e) = if 1 = h.val then 1 else 0 := fun e => by
    rw [hw]; congr 1; have := e.isLt; simp [Fin.natAdd]; omega
  simp only [hl, hr]
  fin_cases h
  · simp
    rfl
  · simp
    rfl

/-- A sum against the block of ones of the first 32 lanes is the sum over them. -/
theorem sum32 (f : Fin 128 → EReal) (w : Fin 128 → EReal) (hw : ∀ j : Fin 128, w j = if j.val < 32 then 1 else 0) :
    ∑ j, f j * w j = ∑ e : Fin 32, f ⟨e.val, by omega⟩ := by
  rw [show (∑ j : Fin 128, f j * w j) = ∑ j : Fin (32 + 96), f j * w j from rfl, Fin.sum_univ_add]
  have hl : ∀ e : Fin 32, w (Fin.castAdd 96 e) = 1 := fun e => by
    rw [hw, if_pos]; exact e.isLt
  have hr : ∀ e : Fin 96, w (Fin.natAdd 32 e) = 0 := fun e => by
    rw [hw, if_neg]; simp [Fin.natAdd]
  simp only [hl, hr, mul_one, mul_zero, Finset.sum_const_zero, add_zero]
  rfl

/-- A turned lane of the first half: `x c - y s`. -/
theorem turn_first {p : Prop} [Decidable p] (h : p) (x y z c s : EReal) : turn p x y z c s = x * c - y * s := by
  unfold turn
  rw [if_pos h, zero_sub, neg_mul, ← sub_eq_add_neg]

/-- A turned lane of the second half: `x c + z s`. -/
theorem turn_second {p : Prop} [Decidable p] (h : ¬ p) (x y z c s : EReal) : turn p x y z c s = x * c + z * s := by
  unfold turn
  rw [if_neg h]

end Cert.ProjVal

end
-- ==== Proof.Val.ProjPre.lean ====
/- The projection call's precondition, read entry by entry: the keys' weights and the rows' gains are finite numbers. -/
module

public import proofs.«01_k».proof.Defs
public import proofs.«01_k».proof.Proof.Val.ProjMath
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal
open Cert.ProjIdeal

/-- The facts the precondition's program states. -/
theorem preFacts : Cert.Pre_keys_finite.Facts := by constructor <;> decide

/-- A conjunction of two bits is one where both are. -/
theorem and_one {a b : BitVec 1} (h : IntOp.andi a b = 1#1) : a = 1#1 ∧ b = 1#1 := by
  revert h; revert a b; decide

/-- A number below one infinity and above the other is finite. -/
theorem fin_cmp {x : EReal} (h : Ideal.cmp .olt x (Ideal.ofBits .f32 0x7F800000#32) = 1#1) (h' : Ideal.cmp .ogt x (Ideal.ofBits .f32 0xFF800000#32) = 1#1) : Fin' x := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht] at h
  rw [hb] at h'
  refine fin_of_ne ⟨fun e => ?_, fun e => ?_⟩
  · rw [e] at h; simp [Ideal.cmp] at h
  · rw [e] at h'; simp [Ideal.cmp] at h'

/-- The precondition, read at an entry. -/
theorem pre_apply (m : (ℓ : Loc nD τ sig) → Buf (Elt Ideal) ℓ) (h : Cert.Pre_ProjIdeal_keys_finite (hPre_keys_finite := preFacts) m) (c : Dev nD) (k : Fin 1024) (j : Fin 160) :
    Fin' (if h : j.val < 128 then m (c.tc.loc main_arg2) (ix2 k ⟨512 + j.val, by omega⟩) else m (c.tc.loc main_arg2) (ix2 k ⟨1024 + (j.val - 128), by omega⟩)) ∧ Fin' (m (c.tc.loc main_arg1) (ix1 k)) := by
  have h1 := congrFun (h c) (ix2 k j)
  generalize m (c.tc.loc main_arg0) = A0 at h1
  generalize m (c.tc.loc main_arg1) = A1 at h1 ⊢
  generalize m (c.tc.loc main_arg2) = A2 at h1 ⊢
  have h2 : IntOp.andi (IntOp.andi (IntOp.andi (Ideal.cmp .olt (if h : j.val < 128 then A2 (ix2 k ⟨512 + j.val, by omega⟩) else A2 (ix2 k ⟨1024 + (j.val - 128), by omega⟩)) (Ideal.ofBits .f32 0x7F800000#32))
      (Ideal.cmp .ogt (if h : j.val < 128 then A2 (ix2 k ⟨512 + j.val, by omega⟩) else A2 (ix2 k ⟨1024 + (j.val - 128), by omega⟩)) (Ideal.ofBits .f32 0xFF800000#32)))
      (Ideal.cmp .olt (A1 (ix1 k)) (Ideal.ofBits .f32 0x7F800000#32))) (Ideal.cmp .ogt (A1 (ix1 k)) (Ideal.ofBits .f32 0xFF800000#32)) = 1#1 := by
    refine Eq.trans ?_ h1
    symm
    pointwise [Cert.Pre_keys_finite.fn]
  obtain ⟨h2, h6⟩ := and_one h2
  obtain ⟨h2, h5⟩ := and_one h2
  obtain ⟨h3, h4⟩ := and_one h2
  exact ⟨fin_cmp h3 h4, fin_cmp h5 h6⟩

/-- The rows' gains are finite. -/
theorem gain_fin (m : (ℓ : Loc nD τ sig) → Buf (Elt Ideal) ℓ) (h : Cert.Pre_ProjIdeal_keys_finite (hPre_keys_finite := preFacts) m) (c : Dev nD) (k : Fin 1024) : Fin' (m (c.tc.loc main_arg1) (ix1 k)) :=
  (pre_apply m h c k 0).2

/-- The keys' weights are finite. -/
theorem key_fin (m : (ℓ : Loc nD τ sig) → Buf (Elt Ideal) ℓ) (h : Cert.Pre_ProjIdeal_keys_finite (hPre_keys_finite := preFacts) m) (c : Dev nD) (k : Fin 1024) (j : Fin 128) :
    Fin' (m (c.tc.loc main_arg2) (ix2 k ⟨512 + j.val, by omega⟩)) := by
  have := (pre_apply m h c k ⟨j.val, by omega⟩).1
  rwa [dif_pos j.isLt] at this

/-- The index keys' weights are finite. -/
theorem idx_fin (m : (ℓ : Loc nD τ sig) → Buf (Elt Ideal) ℓ) (h : Cert.Pre_ProjIdeal_keys_finite (hPre_keys_finite := preFacts) m) (c : Dev nD) (k : Fin 1024) (j : Fin 32) :
    Fin' (m (c.tc.loc main_arg2) (ix2 k ⟨1024 + j.val, by omega⟩)) := by
  have := (pre_apply m h c k ⟨128 + j.val, by omega⟩).1
  rw [dif_neg (by show ¬ 128 + j.val < 128; omega)] at this
  have e : (⟨1024 + (128 + j.val - 128), by omega⟩ : Fin 5160) = ⟨1024 + j.val, by omega⟩ := Fin.ext (by show 1024 + (128 + j.val - 128) = 1024 + j.val; omega)
  exact e ▸ this

end Cert.ProjVal

end
-- ==== Proof.Val.ProjIdx.lean ====
/- Where the projection call's windows sit at each grid point. -/
module

public import proofs.«01_k».proof.Defs
public import proofs.«01_k».proof.Proof.Gen.ProjIdeal.Value
public import proofs.«01_k».proof.Proof.Val.ProjMath
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.ProjVal
open Cert.ProjIdeal Cert.ProjIdeal.Gen

set_option maxHeartbeats 4000000 in
/-- The index maps of the windows that move with the grid point. -/
theorem idx : ∀ t : Fin cfg0.N, win0_0.index t = ![t.val, 0] ∧ win0_14.index t = ![t.val, 0, 0] ∧ win0_15.index t = ![t.val, 0, 0]
    ∧ win0_17.index t = ![t.val, 0] ∧ win0_18.index t = ![t.val, 0] ∧ win0_19.index t = ![t.val, 0] :=
  (by decide +kernel : ∀ t : Fin grid0.N, win0_0.index t = ![t.val, 0] ∧ win0_14.index t = ![t.val, 0, 0] ∧ win0_15.index t = ![t.val, 0, 0]
    ∧ win0_17.index t = ![t.val, 0] ∧ win0_18.index t = ![t.val, 0] ∧ win0_19.index t = ![t.val, 0])

set_option maxHeartbeats 4000000 in
/-- The index maps of the windows that stay. -/
theorem idx' : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, win0_1.index t = ![0, 0] ∧ win0_2.index t = ![0, 0] ∧ win0_3.index t = ![0, 0] ∧ win0_4.index t = ![0, 0]
    ∧ win0_5.index t = ![0, 0] ∧ win0_6.index t = ![0, 0] ∧ win0_8.index t = ![0, 0] ∧ win0_9.index t = ![0, 0] ∧ win0_10.index t = ![0, 0]
    ∧ win0_11.index t = ![0, 0] ∧ win0_12.index t = ![0, 0])

end Cert.ProjVal

end
-- ==== Proof.Val.ProjBlk.lean ====
/- What the projection call reads at a grid point: the rows, the gains and the rotary tables. -/
module

public import proofs.«01_k».proof.Defs
public import proofs.«01_k».proof.Proof.Gen.ProjIdeal.Value
public import proofs.«01_k».proof.Proof.Val.ProjMath
public import proofs.«01_k».proof.Proof.Val.ProjIdx
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.ProjVal
open Cert.ProjIdeal Cert.ProjIdeal.Gen

variable (m : (ℓ : Loc nD τ sig) → Buf (Elt Ideal) ℓ) (c : Dev nD) (t : Fin cfg0.N)

set_option maxHeartbeats 4000000 in
/-- The input rows' block: a grid point's 64 rows are one sample's. -/
theorem blk0 (b : Fin 16) (hb : b.val = t.val) (y : Fin 64) (k : Fin 1024) : iblk m c 0 t (ix2 y k) = m (c.tc.loc main_arg0) (ix3 b y k) := by
  blk_simp [iblk]
  simp only [V, hostOps0, hostOps0_1, hostOps0_2, hostOps0_3, hostOps0_4, List.flatten_cons, List.flatten_nil, List.append_nil, List.cons_append, List.nil_append]
  entry_read
  pointwise
  blk_ext [idx t]

set_option maxHeartbeats 4000000 in
/-- The rows' gains. -/
theorem blk1 (k : Fin 1024) : iblk m c 1 t (ix2 0 k) = m (c.tc.loc main_arg1) (ix1 k) := by
  blk_simp [iblk]
  simp only [V, hostOps0, hostOps0_1, hostOps0_2, hostOps0_3, hostOps0_4, List.flatten_cons, List.flatten_nil, List.append_nil, List.cons_append, List.nil_append]
  entry_read
  pointwise
  blk_ext [idx' t]

set_option maxHeartbeats 4000000 in
/-- The keys' cosines. -/
theorem blk3 (y : Fin 64) (l : Fin 128) : iblk m c 3 t (ix2 y l) = Ideal.cos (ang 0x42000000#32 y.val (l.val % 32)) := by
  have e : ((cfg0.win 3).blk t).view.emb (ix2 y l) = ix2 y l := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  pointwise [ang]

set_option maxHeartbeats 4000000 in
/-- The keys' sines. -/
theorem blk4 (y : Fin 64) (l : Fin 128) : iblk m c 4 t (ix2 y l) = Ideal.sin (ang 0x42000000#32 y.val (l.val % 32)) := by
  have e : ((cfg0.win 4).blk t).view.emb (ix2 y l) = ix2 y l := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  pointwise [ang]

set_option maxHeartbeats 4000000 in
/-- The index keys' cosines. -/
theorem blk5 (y : Fin 64) (l : Fin 128) : iblk m c 5 t (ix2 y l) = Ideal.cos (ang 0x41800000#32 y.val (l.val % 16)) := by
  have e : ((cfg0.win 5).blk t).view.emb (ix2 y l) = ix2 y l := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  pointwise [ang]

set_option maxHeartbeats 4000000 in
/-- The index keys' sines. -/
theorem blk6 (y : Fin 64) (l : Fin 128) : iblk m c 6 t (ix2 y l) = Ideal.sin (ang 0x41800000#32 y.val (l.val % 16)) := by
  have e : ((cfg0.win 6).blk t).view.emb (ix2 y l) = ix2 y l := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  pointwise [ang]

set_option maxHeartbeats 4000000 in
/-- The keys' gains, once for each head. -/
theorem blk8 (l : Fin 128) : iblk m c 8 t (ix2 0 l) = m (c.tc.loc main_arg4) (ix1 ⟨l.val % 64, by omega⟩) := by
  have e : ((cfg0.win 8).blk t).view.emb (ix2 0 l) = ix2 0 l := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  pointwise

set_option maxHeartbeats 4000000 in
/-- The index keys' gains. -/
theorem blk9 (l : Fin 128) (h : l.val < 32) : iblk m c 9 t (ix2 0 l) = m (c.tc.loc main_arg5) (ix1 ⟨l.val, h⟩) := by
  have e : ((cfg0.win 9).blk t).view.emb (ix2 0 l) = ix2 0 l := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  pointwise
  rw [dif_pos h]

set_option maxHeartbeats 4000000 in
/-- The memory queries' gains. -/
theorem blk10 (l : Fin 128) : iblk m c 10 t (ix2 0 l) = m (c.tc.loc main_arg6) (ix1 l) := by
  blk_simp [iblk]
  simp only [V, hostOps0, hostOps0_1, hostOps0_2, hostOps0_3, hostOps0_4, List.flatten_cons, List.flatten_nil, List.append_nil, List.cons_append, List.nil_append]
  entry_read
  pointwise
  blk_ext [idx' t]

/-- Where a block of the keys sits. -/
theorem emb14 (y : Fin 64) (r : Fin 1024) (hr : r.val = t.val * 64 + y.val) (h : Fin 2) (d : Fin 64) :
    ((cfg0.win 14).blk t).view.emb (ix3 y h d) = ix3 r h d := by
  blk_ext [idx t]

/-- Where a block of the values sits. -/
theorem emb15 (y : Fin 64) (r : Fin 1024) (hr : r.val = t.val * 64 + y.val) (h : Fin 2) (d : Fin 64) :
    ((cfg0.win 15).blk t).view.emb (ix3 y h d) = ix3 r h d := by
  blk_ext [idx t]

/-- Where a block of the index keys and their weights sits. -/
theorem emb17 (y : Fin 64) (r : Fin 1024) (hr : r.val = t.val * 64 + y.val) (l : Fin 128) :
    ((cfg0.win 17).blk t).view.emb (ix2 y l) = ix2 r l := by
  blk_ext [idx t]

/-- Where a block of the pooled stream sits. -/
theorem emb18 (y : Fin 64) (r : Fin 1024) (hr : r.val = t.val * 64 + y.val) (l : Fin 512) :
    ((cfg0.win 18).blk t).view.emb (ix2 y l) = ix2 r l := by
  blk_ext [idx t]

/-- Where a block of the memory queries sits. -/
theorem emb19 (y : Fin 64) (r : Fin 1024) (hr : r.val = t.val * 64 + y.val) (l : Fin 512) :
    ((cfg0.win 19).blk t).view.emb (ix2 y l) = ix2 r l := by
  blk_ext [idx t]

end Cert.ProjVal

end
-- ==== Proof.Val.ProjBlkM.lean ====
/- What the projection call reads at a grid point: the two masks that sum the lanes of a head. -/
module

public import proofs.«01_k».proof.Defs
public import proofs.«01_k».proof.Proof.Gen.ProjIdeal.Value
public import proofs.«01_k».proof.Proof.Val.ProjMath
public import proofs.«01_k».proof.Proof.Val.ProjIdx
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.ProjVal
open Cert.ProjIdeal Cert.ProjIdeal.Gen

variable (m : (ℓ : Loc nD τ sig) → Buf (Elt Ideal) ℓ) (c : Dev nD) (t : Fin cfg0.N)

/-- Floor division of words as the call builds it: the truncated quotient, less one where the signs differ and the remainder is not zero. -/
def fl (n k : BitVec 32) : BitVec 32 :=
  Scalar.select
    (IntOp.andi (IntOp.cmpi CmpIPredicate.ne (if n = 0 then 0 else if n.msb = true then -1 else 1) (if k = 0 then (0 : BitVec 32) else if k.msb = true then -1 else 1))
      (IntOp.cmpi CmpIPredicate.ne (IntOp.remsi ArithUnit.host n k) 0#32))
    (IntOp.subi (IntOp.divsi ArithUnit.host n k) 1#32) (IntOp.divsi ArithUnit.host n k)

set_option maxHeartbeats 4000000 in
/-- The head of a lane among heads of 64 lanes. -/
theorem fl64 : ∀ i : Fin 512, fl (BitVec.ofNat 32 i.val) 64#32 = BitVec.ofNat 32 (i.val / 64) := by decide +kernel

set_option maxHeartbeats 4000000 in
/-- All of 128 lanes lie in one group of 128. -/
theorem fl128 : ∀ i : Fin 128, fl (BitVec.ofNat 32 i.val) 128#32 = 0#32 := by decide +kernel

/-- Two head numbers are compared as numbers. -/
theorem eq8 : ∀ a b : Fin 8, IntOp.cmpi CmpIPredicate.eq (BitVec.ofNat 32 a.val) (BitVec.ofNat 32 b.val) = if a.val = b.val then 1#1 else 0#1 := by decide +kernel

set_option maxHeartbeats 4000000 in
/-- A lane is compared with 32 as a number. -/
theorem lt32 : ∀ a : Fin 128, IntOp.cmpi CmpIPredicate.slt (BitVec.ofNat 32 a.val) 32#32 = if a.val < 32 then 1#1 else 0#1 := by decide +kernel

/-- The mask's bit at a pair of lanes, case by case. -/
theorem bits : IntOp.andi (IntOp.andi (IntOp.cmpi CmpIPredicate.eq 0#32 0#32) 1#1) 1#1 = 1#1 ∧ IntOp.andi (IntOp.andi (IntOp.cmpi CmpIPredicate.eq 0#32 0#32) 1#1) 0#1 = 0#1
    ∧ IntOp.andi (IntOp.andi (IntOp.cmpi CmpIPredicate.eq 0#32 0#32) 0#1) 1#1 = 0#1 ∧ IntOp.andi (IntOp.andi (IntOp.cmpi CmpIPredicate.eq 0#32 0#32) 0#1) 0#1 = 0#1 := by decide +kernel

/-- The number of a set bit. -/
theorem bit1 : (FloatOps.uitofp (F := Ideal) FTy.bf16 (1#1) : EReal) = 1 := by
  show (((1#1 : BitVec 1).toNat : ℝ) : EReal) = 1
  norm_num

/-- The number of a clear bit. -/
theorem bit0 : (FloatOps.uitofp (F := Ideal) FTy.bf16 (0#1) : EReal) = 0 := by
  show (((0#1 : BitVec 1).toNat : ℝ) : EReal) = 0
  norm_num

set_option maxHeartbeats 4000000 in
/-- The blocks of ones of the heads of 64 lanes. -/
theorem blk11 (i j : Fin 512) : iblk m c 11 t (ix2 i j) = if i.val / 64 = j.val / 64 then (1 : EReal) else 0 := by
  have e : ((cfg0.win 11).blk t).view.emb (ix2 i j) = ix2 i j := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  simp only [StableHlo.TRef.ofBuf_toBuf]
  simp only [StableHlo.TRef.ofBuf, StableHlo.TRef.toBuf, cast_eq]
  pointwise
  show (FloatOps.uitofp (F := Ideal) FTy.bf16 (IntOp.cmpi CmpIPredicate.eq (fl (BitVec.ofNat 32 i.val) 64#32) (fl (BitVec.ofNat 32 j.val) 64#32)) : EReal) = _
  rw [fl64, fl64, eq8 ⟨i.val / 64, by omega⟩ ⟨j.val / 64, by omega⟩]
  show (FloatOps.uitofp (F := Ideal) FTy.bf16 (if i.val / 64 = j.val / 64 then 1#1 else 0#1) : EReal) = _
  split_ifs
  · exact bit1
  · exact bit0

set_option maxHeartbeats 4000000 in
/-- The block of ones of the first 32 lanes. -/
theorem blk12 (i j : Fin 128) : iblk m c 12 t (ix2 i j) = if i.val < 32 ∧ j.val < 32 then (1 : EReal) else 0 := by
  have e : ((cfg0.win 12).blk t).view.emb (ix2 i j) = ix2 i j := by blk_ext [idx' t]
  blk_simp [iblk]
  rw [e]
  simp only [V, hostOps0, hostOps0_1, hostOps0_2, hostOps0_3, hostOps0_4, List.flatten_cons, List.flatten_nil, List.append_nil, List.cons_append, List.nil_append]
  entry_read
  simp only [StableHlo.TRef.ofBuf_toBuf]
  simp only [StableHlo.TRef.ofBuf, StableHlo.TRef.toBuf, cast_eq]
  pointwise
  show (FloatOps.uitofp (F := Ideal) FTy.bf16 (IntOp.andi (IntOp.andi (IntOp.cmpi CmpIPredicate.eq (fl (BitVec.ofNat 32 i.val) 128#32) (fl (BitVec.ofNat 32 j.val) 128#32))
    (IntOp.cmpi CmpIPredicate.slt (BitVec.ofNat 32 i.val) 32#32)) (IntOp.cmpi CmpIPredicate.slt (BitVec.ofNat 32 j.val) 32#32)) : EReal) = _
  rw [fl128, fl128, lt32, lt32]
  by_cases hi : i.val < 32
  · by_cases hj : j.val < 32
    · rw [if_pos hi, if_pos hj, if_pos (show i.val < 32 ∧ j.val < 32 from ⟨hi, hj⟩), bits.1]
      exact bit1
    · rw [if_pos hi, if_neg hj, if_neg (show ¬ (i.val < 32 ∧ j.val < 32) from fun h => hj h.2), bits.2.1]
      exact bit0
  · rw [if_neg hi, if_neg (show ¬ (i.val < 32 ∧ j.val < 32) from fun h => hi h.1)]
    by_cases hj : j.val < 32
    · rw [if_pos hj, bits.2.2.1]
      exact bit0
    · rw [if_neg hj, bits.2.2.2]
      exact bit0

end Cert.ProjVal

end
-- ==== Proof.Val.ProjBlkW.lean ====
/- What the projection call reads at a grid point: the packed weights. -/
module

public import proofs.«01_k».proof.Defs
public import proofs.«01_k».proof.Proof.Gen.ProjIdeal.Value
public import proofs.«01_k».proof.Proof.Val.ProjMath
public import proofs.«01_k».proof.Proof.Val.ProjIdx
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.ProjVal
open Cert.ProjIdeal Cert.ProjIdeal.Gen

variable (m : (ℓ : Loc nD τ sig) → Buf (Elt Ideal) ℓ) (c : Dev nD) (t : Fin cfg0.N)

set_option maxHeartbeats 4000000 in
/-- The packed weights, entry by entry: the columns of `w_in` up to 1064, 88 columns of zeros, and the columns from 1064 on. -/
theorem pack (A : FVec Ideal S1024x5160 .f32) (a0 : FVec Ideal S1024x512 .f32) (a1 : FVec Ideal S1024x128 .f32) (a2 : FVec Ideal S1024x128 .f32) (a3 : FVec Ideal S1024x256 .f32) (a4 : FVec Ideal S1024x32 .f32) (a5 : FVec Ideal S1024x8 .f32) (a6 : FVec Ideal S1024x88 .f32) (a7 : FVec Ideal S1024x512 .f32) (a8 : FVec Ideal S1024x512 .f32)
    (h0 : a0 = extractStridedSlice S1024x512 ![0, 0] A slices_S1024x5160_S1024x512_0_0) (h1 : a1 = extractStridedSlice S1024x128 ![0, 512] A slices_S1024x5160_S1024x128_0_512) (h2 : a2 = extractStridedSlice S1024x128 ![0, 640] A slices_S1024x5160_S1024x128_0_640) (h3 : a3 = extractStridedSlice S1024x256 ![0, 768] A slices_S1024x5160_S1024x256_0_768) (h4 : a4 = extractStridedSlice S1024x32 ![0, 1024] A slices_S1024x5160_S1024x32_0_1024) (h5 : a5 = extractStridedSlice S1024x8 ![0, 1056] A slices_S1024x5160_S1024x8_0_1056) (h6 : a6 = broadcastInDim S1024x88 ![] bcast_S_S1024x88 (constant S_ .f32 0x00000000#32)) (h7 : a7 = extractStridedSlice S1024x512 ![0, 1064] A slices_S1024x5160_S1024x512_0_1064) (h8 : a8 = extractStridedSlice S1024x512 ![0, 1576] A slices_S1024x5160_S1024x512_0_1576)
    (k : Fin 1024) (j : Fin 2176) : concatenate S1024x2176 1 [⟨S1024x512, a0⟩, ⟨S1024x128, a1⟩, ⟨S1024x128, a2⟩, ⟨S1024x256, a3⟩, ⟨S1024x32, a4⟩, ⟨S1024x8, a5⟩, ⟨S1024x88, a6⟩, ⟨S1024x512, a7⟩, ⟨S1024x512, a8⟩] concatenates_S1024x512_S1024x128_S1024x128_S1024x256_S1024x32_S1024x8_S1024x88_S1024x512_S1024x512_S1024x2176_d1 (ix2 k j) =
    if h : j.val < 1064 then A (ix2 k ⟨j.val, by omega⟩) else if h' : j.val < 1152 then (0 : EReal) else A (ix2 k ⟨j.val - 88, by omega⟩) := by
  subst h0 h1 h2 h3 h4 h5 h6 h7 h8
  pointwise
  repeat' split
  all_goals first
    | (exfalso; omega)
    | rfl
    | exact congrArg (fun z => A (ix2 k z)) (Fin.ext (by dsimp only <;> omega))

/-- The host's operations up to the packing of the weights. -/
def pre : List (HloOp τ sig (Elt Ideal)) := List.flatten [hostOps0, hostOps0_1, hostOps0_2, hostOps0_3] ++ (hostOps0_4 (F := Ideal)).take 18

/-- The host's operations after the packing of the weights. -/
def post : List (HloOp τ sig (Elt Ideal)) := (hostOps0_4 (F := Ideal)).drop 31

/-- The operations that pack the weights. -/
def mid : List (HloOp τ sig (Elt Ideal)) := ((hostOps0_4 (F := Ideal)).drop 18).take 13

/-- The host's operations, cut around the packing. -/
theorem ops_split : List.flatten [hostOps0 (F := Ideal), hostOps0_1, hostOps0_2, hostOps0_3, hostOps0_4] = pre ++ (mid ++ post) := by rfl

set_option maxHeartbeats 4000000 in
/-- The operations before the packing leave the weights as they were. -/
theorem pre_arg2 : StableHlo.after pre (fun b => m (c, b)) (Proc.devRef .tc main_arg2) = m (c.tc.loc main_arg2) :=
  StableHlo.after_of_forall_not_mem (b := Proc.devRef .tc main_arg2) _ _ (List.forall_iff_forall_mem.mp (by
    simp only [pre, hostOps0, hostOps0_1, hostOps0_2, hostOps0_3, hostOps0_4, List.flatten_cons, List.flatten_nil, List.append_nil, List.cons_append,
      List.take_succ_cons, List.take_zero, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- The operations after the packing leave the packed weights as they are. -/
theorem post_v37 (G : Valuation τ sig (Elt Ideal)) : StableHlo.after post G (Proc.devRef .tc main_v37) = G (Proc.devRef .tc main_v37) :=
  StableHlo.after_of_forall_not_mem (b := Proc.devRef .tc main_v37) _ _ (List.forall_iff_forall_mem.mp (by
    simp only [post, hostOps0_4, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The pieces of the packed weights, before they are put side by side. -/
def mid1 : List (HloOp τ sig (Elt Ideal)) := ((hostOps0_4 (F := Ideal)).drop 18).take 11

/-- Putting the pieces side by side. -/
def mid2 : List (HloOp τ sig (Elt Ideal)) := ((hostOps0_4 (F := Ideal)).drop 29).take 2

/-- The packing is its pieces, then the putting together. -/
theorem mid_split : mid = mid1 ++ mid2 := by rfl

/-- The queries' columns. -/
theorem at_v26 (G : Valuation τ sig (Elt Ideal)) : StableHlo.after mid1 G (Proc.devRef .tc main_v26) = extractStridedSlice S1024x512 ![0, 0] (G (Proc.devRef .tc main_arg2)) slices_S1024x5160_S1024x512_0_0 := by
  simp only [mid1, hostOps0_4, List.drop_succ_cons, List.drop_zero, List.take_succ_cons, List.take_zero]
  entry_read
  rfl

/-- The keys' columns. -/
theorem at_v27 (G : Valuation τ sig (Elt Ideal)) : StableHlo.after mid1 G (Proc.devRef .tc main_v27) = extractStridedSlice S1024x128 ![0, 512] (G (Proc.devRef .tc main_arg2)) slices_S1024x5160_S1024x128_0_512 := by
  simp only [mid1, hostOps0_4, List.drop_succ_cons, List.drop_zero, List.take_succ_cons, List.take_zero]
  entry_read
  rfl

/-- The values' columns. -/
theorem at_v28 (G : Valuation τ sig (Elt Ideal)) : StableHlo.after mid1 G (Proc.devRef .tc main_v28) = extractStridedSlice S1024x128 ![0, 640] (G (Proc.devRef .tc main_arg2)) slices_S1024x5160_S1024x128_0_640 := by
  simp only [mid1, hostOps0_4, List.drop_succ_cons, List.drop_zero, List.take_succ_cons, List.take_zero]
  entry_read
  rfl

/-- The index queries' columns. -/
theorem at_v29 (G : Valuation τ sig (Elt Ideal)) : StableHlo.after mid1 G (Proc.devRef .tc main_v29) = extractStridedSlice S1024x256 ![0, 768] (G (Proc.devRef .tc main_arg2)) slices_S1024x5160_S1024x256_0_768 := by
  simp only [mid1, hostOps0_4, List.drop_succ_cons, List.drop_zero, List.take_succ_cons, List.take_zero]
  entry_read
  rfl

/-- The index keys' columns. -/
theorem at_v30 (G : Valuation τ sig (Elt Ideal)) : StableHlo.after mid1 G (Proc.devRef .tc main_v30) = extractStridedSlice S1024x32 ![0, 1024] (G (Proc.devRef .tc main_arg2)) slices_S1024x5160_S1024x32_0_1024 := by
  simp only [mid1, hostOps0_4, List.drop_succ_cons, List.drop_zero, List.take_succ_cons, List.take_zero]
  entry_read
  rfl

/-- The index weights' columns. -/
theorem at_v31 (G : Valuation τ sig (Elt Ideal)) : StableHlo.after mid1 G (Proc.devRef .tc main_v31) = extractStridedSlice S1024x8 ![0, 1056] (G (Proc.devRef .tc main_arg2)) slices_S1024x5160_S1024x8_0_1056 := by
  simp only [mid1, hostOps0_4, List.drop_succ_cons, List.drop_zero, List.take_succ_cons, List.take_zero]
  entry_read
  rfl

/-- The columns of zeros. -/
theorem at_v35 (G : Valuation τ sig (Elt Ideal)) : StableHlo.after mid1 G (Proc.devRef .tc main_v35) = broadcastInDim S1024x88 ![] bcast_S_S1024x88 (constant (F := Ideal) S_ .f32 0x00000000#32) := by
  simp only [mid1, hostOps0_4, List.drop_succ_cons, List.drop_zero, List.take_succ_cons, List.take_zero]
  entry_read
  rfl

/-- The pooled stream's columns. -/
theorem at_v32 (G : Valuation τ sig (Elt Ideal)) : StableHlo.after mid1 G (Proc.devRef .tc main_v32) = extractStridedSlice S1024x512 ![0, 1064] (G (Proc.devRef .tc main_arg2)) slices_S1024x5160_S1024x512_0_1064 := by
  simp only [mid1, hostOps0_4, List.drop_succ_cons, List.drop_zero, List.take_succ_cons, List.take_zero]
  entry_read
  rfl

/-- The memory queries' columns. -/
theorem at_v33 (G : Valuation τ sig (Elt Ideal)) : StableHlo.after mid1 G (Proc.devRef .tc main_v33) = extractStridedSlice S1024x512 ![0, 1576] (G (Proc.devRef .tc main_arg2)) slices_S1024x5160_S1024x512_0_1576 := by
  simp only [mid1, hostOps0_4, List.drop_succ_cons, List.drop_zero, List.take_succ_cons, List.take_zero]
  entry_read
  rfl

set_option maxHeartbeats 4000000 in
/-- The packed weights' columns before the padding. -/
theorem blk2 (k : Fin 1024) (j : Fin 2176) : iblk m c 2 t (ix2 k j) = if h : j.val < 1064 then m (c.tc.loc main_arg2) (ix2 k ⟨j.val, by omega⟩)
    else if h' : j.val < 1152 then (0 : EReal) else m (c.tc.loc main_arg2) (ix2 k ⟨j.val - 88, by omega⟩) := by
  have e : ((cfg0.win 2).blk t).view.emb (ix2 k j) = ix2 k j := by blk_ext [idx' t]
  blk_simp [iblk]
  rw [e]
  show StableHlo.after (List.flatten [hostOps0, hostOps0_1, hostOps0_2, hostOps0_3, hostOps0_4]) (fun b => m (c, b)) (Proc.devRef .tc main_v37) (ix2 k j) = _
  rw [ops_split, StableHlo.after_append, StableHlo.after_append, post_v37, ← pre_arg2 m c]
  generalize StableHlo.after pre (fun b => m (c, b)) = G
  rw [mid_split, StableHlo.after_append]
  refine Eq.trans ?_ (pack (G (Proc.devRef .tc main_arg2)) _ _ _ _ _ _ _ _ _ (at_v26 G) (at_v27 G) (at_v28 G) (at_v29 G) (at_v30 G) (at_v31 G) (at_v35 G) (at_v32 G) (at_v33 G) k j)
  generalize StableHlo.after mid1 G = G1
  simp only [mid2, hostOps0_4, List.drop_succ_cons, List.drop_zero, List.take_succ_cons, List.take_zero, StableHlo.after_cons, StableHlo.after_nil]
  rw [StableHlo.unary_result, StableHlo.nary_result]
  rfl

end Cert.ProjVal

end
-- ==== Proof.Val.ProjOut.lean ====
/- The lanes a grid point of the projection call stores, over its product and its operands, are the reference's entries. -/
module

public import proofs.«01_k».proof.Proof.Val.ProjMath

@[expose] public section

set_option maxRecDepth 16384

noncomputable section

open Idealize.ShloMosaic Idealize.ShloMosaic.TcCoe Idealize.SL.Sem

namespace Cert.ProjVal
open Cert.ProjIdeal Cert.ProjIdeal.Gen

/-- Row `y` of a grid point's product `K` holds the reference's row: the columns before the padding, the padding's zeros, the columns after. -/
structure Row (P : FVec Ideal Cert.ProjRefIdeal.S16x64x5160 .f32) (K : FVec Ideal S64x2176 .f32) (b : Fin 16) (y : Fin 64) : Prop where
  low : ∀ (j : Fin 2176) (h : j.val < 1064), K (ix2 y j) = P (ix3 b y ⟨j.val, by omega⟩)
  pad : ∀ j : Fin 2176, ¬ j.val < 1064 → j.val < 1152 → K (ix2 y j) = 0
  high : ∀ j : Fin 2176, ¬ j.val < 1152 → K (ix2 y j) = P (ix3 b y ⟨j.val - 88, by omega⟩)

variable {P : FVec Ideal Cert.ProjRefIdeal.S16x64x5160 .f32} {K : FVec Ideal S64x2176 .f32} {b : Fin 16} {y : Fin 64} {r : Fin 1024}

/-- A column of the product, wherever it lies before the padding. -/
theorem Row.at_low (R : Row P K b y) (j : Fin 2176) (i : Fin 5160) (h : j.val < 1064) (e : j.val = i.val) : K (ix2 y j) = P (ix3 b y i) :=
  (R.low j h).trans (congrArg (fun i => P (ix3 b y i)) (Fin.ext e))

/-- A column of the product, wherever it lies after the padding. -/
theorem Row.at_high (R : Row P K b y) (j : Fin 2176) (i : Fin 5160) (h : ¬ j.val < 1152) (e : j.val = i.val + 88) : K (ix2 y j) = P (ix3 b y i) :=
  (R.high j h).trans (congrArg (fun i => P (ix3 b y i)) (Fin.ext (by show j.val - 88 = i.val; omega)))

/-- A key lane, normalised. -/
theorem key_lane (R : Row P K b y) (A4 : FVec Ideal Cert.ProjRefIdeal.S64 .f32) (x11 : FVec Ideal S512x512 .bf16) (x8 : Vec Ideal S1x128 .f32)
    (h11 : ∀ i j : Fin 512, x11 (ix2 i j) = if i.val / 64 = j.val / 64 then (1 : EReal) else 0) (h8 : ∀ l : Fin 128, x8 (ix2 0 l) = A4 (ix1 ⟨l.val % 64, by omega⟩))
    (hf : ∀ j : Fin 128, Fin' (K (ix2 y ⟨512 + j.val, by omega⟩))) (l : Fin 128) (h : Fin 2) (d : Fin 64) (hl : l.val = h.val * 64 + d.val) :
    kn (K (ix2 y ⟨512 + l.val, by omega⟩)) (k0_pay27 K x11 (ix2 y l)) (Ideal.ofBits .f32 0x3C800000#32) (x8 (ix2 0 l)) = rNA P A4 (ix4 b y h d) := by
  have hw : ∀ j : Fin 128, x11 (ix2 ⟨j.val, by omega⟩ ⟨l.val, by omega⟩) = if j.val / 64 = h.val then (1 : EReal) else 0 := fun j => by
    rw [h11]
    have : l.val / 64 = h.val := by omega
    simp only [this]
  have hz : (∑ j : Fin 128, (K (ix2 y ⟨512 + j.val, by omega⟩) * K (ix2 y ⟨512 + j.val, by omega⟩) - K (ix2 y ⟨512 + j.val, by omega⟩) * K (ix2 y ⟨512 + j.val, by omega⟩))
      * x11 (ix2 ⟨j.val, by omega⟩ ⟨l.val, by omega⟩)) = 0 := Finset.sum_eq_zero fun j _ => by rw [sub_self' (hf j), zero_mul]
  rw [rNA_apply, ssq_apply, kn, rn, sum64 (fun j : Fin 128 => K (ix2 y ⟨512 + j.val, by omega⟩) * K (ix2 y ⟨512 + j.val, by omega⟩)) _ h hw,
    hz, add_zero, lit64, lit64inv, ← div_coe _ _ (by norm_num), h8,
    R.at_low _ ⟨512 + (h.val * 64 + d.val), by omega⟩ (by show 512 + l.val < 1064; omega) (by show 512 + l.val = 512 + (h.val * 64 + d.val); omega)]
  have hk : ∀ e : Fin 64, K (ix2 y ⟨512 + (h.val * 64 + e.val), by omega⟩) = P (ix3 b y ⟨512 + (h.val * 64 + e.val), by omega⟩) := fun e =>
    R.at_low _ _ (by show 512 + (h.val * 64 + e.val) < 1064; omega) rfl
  simp only [hk]
  exact congrArg (fun j => _ * A4 (ix1 j)) (Fin.ext (by show l.val % 64 = d.val; omega))

/-- A turned key lane. -/
theorem key_turn (R : Row P K b y) (hb : r.val / 64 = b.val) (hy : r.val % 64 = y.val) (A4 : FVec Ideal Cert.ProjRefIdeal.S64 .f32) (x3 x4 v s : FVec Ideal S64x128 .f32)
    (x11 : FVec Ideal S512x512 .bf16) (x8 : Vec Ideal S1x128 .f32)
    (h3 : ∀ l : Fin 128, x3 (ix2 y l) = Ideal.cos (ang 0x42000000#32 y.val (l.val % 32))) (h4 : ∀ l : Fin 128, x4 (ix2 y l) = Ideal.sin (ang 0x42000000#32 y.val (l.val % 32)))
    (h11 : ∀ i j : Fin 512, x11 (ix2 i j) = if i.val / 64 = j.val / 64 then (1 : EReal) else 0) (h8 : ∀ l : Fin 128, x8 (ix2 0 l) = A4 (ix1 ⟨l.val % 64, by omega⟩))
    (hs : ∀ l : Fin 128, s (ix2 y l) = Ideal.ofBits .f32 0x3C800000#32) (hv : ∀ l : Fin 128, v (ix2 y l) = K (ix2 y ⟨512 + l.val, by omega⟩))
    (hf : ∀ j : Fin 128, Fin' (K (ix2 y ⟨512 + j.val, by omega⟩))) (l : Fin 128) (h : Fin 2) (d : Fin 64) (hl : l.val = h.val * 64 + d.val) :
    k0_pay29 x3 x4 v (k0_pay27 K x11) s x8 (ix2 y l) = rKa (rNA P A4) rCA rSA (ix3 r h d) := by
  have hb' : (⟨r.val / 64, by omega⟩ : Fin 16) = b := Fin.ext hb
  have hy' : (⟨r.val % 64, by omega⟩ : Fin 64) = y := Fin.ext hy
  rw [turn_apply, rKa_apply, hb', hy']
  simp only [hs, hv]
  rw [key_lane R A4 x11 x8 h11 h8 hf l h d hl, h3, h4]
  by_cases hd : d.val < 32
  · rw [turn_first (by omega), dif_pos hd, key_lane R A4 x11 x8 h11 h8 hf ⟨(l.val + 128 - 96) % 128, by omega⟩ h ⟨32 + d.val, by omega⟩ (by show (l.val + 128 - 96) % 128 = h.val * 64 + (32 + d.val); omega), rCA_apply, rSA_apply]
    rw [show l.val % 32 = d.val by omega]
  · rw [turn_second (by omega), dif_neg hd, key_lane R A4 x11 x8 h11 h8 hf ⟨(l.val + 128 - 32) % 128, by omega⟩ h ⟨d.val - 32, by omega⟩ (by show (l.val + 128 - 32) % 128 = h.val * 64 + (d.val - 32); omega), rCA_apply, rSA_apply]
    rw [show l.val % 32 = d.val - 32 by omega, show (⟨32 + (d.val - 32), by omega⟩ : Fin 64) = d from Fin.ext (by show 32 + (d.val - 32) = d.val; omega)]

/-- An index key lane, normalised. -/
theorem idx_lane (R : Row P K b y) (A5 : FVec Ideal Cert.ProjRefIdeal.S32 .f32) (x12 : Vec Ideal S128x128 .bf16) (x9 : Vec Ideal S1x128 .f32)
    (h12 : ∀ i j : Fin 128, x12 (ix2 i j) = if i.val < 32 ∧ j.val < 32 then (1 : EReal) else 0) (h9 : ∀ (l : Fin 128) (h : l.val < 32), x9 (ix2 0 l) = A5 (ix1 ⟨l.val, h⟩))
    (hf : ∀ j : Fin 32, Fin' (K (ix2 y ⟨1024 + j.val, by omega⟩))) (l : Fin 128) (d : Fin 32) (hl : l.val = d.val) :
    k0_pay37 K x12 x9 (ix2 y l) = rNI P A5 (ix3 b y d) := by
  have hw : ∀ j : Fin 128, x12 (ix2 j l) = if j.val < 32 then (1 : EReal) else 0 := fun j => by
    rw [h12]
    have : l.val < 32 := by omega
    simp only [this, and_true]
  rw [rNI_apply, idx_apply, kn, rn, sum32 (fun j : Fin 128 => K (ix2 y ⟨1024 + j.val, by omega⟩) * K (ix2 y ⟨1024 + j.val, by omega⟩)) _ hw,
    sum32 (fun j : Fin 128 => K (ix2 y ⟨1024 + j.val, by omega⟩) * K (ix2 y ⟨1024 + j.val, by omega⟩) - K (ix2 y ⟨1024 + j.val, by omega⟩) * K (ix2 y ⟨1024 + j.val, by omega⟩)) _ hw,
    Finset.sum_eq_zero (s := Finset.univ) (f := fun e : Fin 32 => K (ix2 y ⟨1024 + e.val, by omega⟩) * K (ix2 y ⟨1024 + e.val, by omega⟩) - K (ix2 y ⟨1024 + e.val, by omega⟩) * K (ix2 y ⟨1024 + e.val, by omega⟩)) (fun j _ => sub_self' (hf j)),
    add_zero, lit32, lit32inv, ← div_coe _ _ (by norm_num), h9 l (by omega),
    R.at_low _ ⟨1024 + d.val, by omega⟩ (by show 1024 + l.val < 1064; omega) (by show 1024 + l.val = 1024 + d.val; omega)]
  have hk : ∀ e : Fin 32, K (ix2 y ⟨1024 + e.val, by omega⟩) = P (ix3 b y ⟨1024 + e.val, by omega⟩) := fun e =>
    R.at_low _ _ (by show 1024 + e.val < 1064; omega) rfl
  simp only [hk]
  exact congrArg (fun j => _ * A5 (ix1 j)) (Fin.ext hl)

/-- A lane of the index keys and their weights. -/
theorem kw_lane (R : Row P K b y) (hb : r.val / 64 = b.val) (hy : r.val % 64 = y.val) (A5 : FVec Ideal Cert.ProjRefIdeal.S32 .f32) (x5 x6 v : FVec Ideal S64x128 .f32)
    (x12 : Vec Ideal S128x128 .bf16) (x9 : Vec Ideal S1x128 .f32)
    (h5 : ∀ l : Fin 128, x5 (ix2 y l) = Ideal.cos (ang 0x41800000#32 y.val (l.val % 16))) (h6 : ∀ l : Fin 128, x6 (ix2 y l) = Ideal.sin (ang 0x41800000#32 y.val (l.val % 16)))
    (h12 : ∀ i j : Fin 128, x12 (ix2 i j) = if i.val < 32 ∧ j.val < 32 then (1 : EReal) else 0) (h9 : ∀ (l : Fin 128) (h : l.val < 32), x9 (ix2 0 l) = A5 (ix1 ⟨l.val, h⟩))
    (hv : ∀ l : Fin 128, v (ix2 y l) = K (ix2 y ⟨1024 + l.val, by omega⟩)) (hf : ∀ j : Fin 32, Fin' (K (ix2 y ⟨1024 + j.val, by omega⟩))) (l : Fin 128) :
    k0_pay38 x5 x6 v (k0_pay37 K x12 x9) (iota .tc S64x128 32 [1] iota_S64x128_d1_w32) 32#32 (Scalar.cmpi .eq 32#32 0#32) 1#32 (ix2 y l)
      = rKw P (rRI (rNI P A5) rCI rSI) (ix2 r l) := by
  have hb' : (⟨r.val / 64, by omega⟩ : Fin 16) = b := Fin.ext hb
  have hy' : (⟨r.val % 64, by omega⟩ : Fin 64) = y := Fin.ext hy
  rw [kw_apply, rKw_apply, hb', hy']
  by_cases hl : l.val < 32
  · rw [if_pos hl, dif_pos hl, rRI_apply, idx_lane R A5 x12 x9 h12 h9 hf l ⟨l.val, hl⟩ rfl, h5, h6]
    by_cases hd : l.val < 16
    · rw [turn_first (by omega), dif_pos (show (⟨l.val, hl⟩ : Fin 32).val < 16 from hd), idx_lane R A5 x12 x9 h12 h9 hf ⟨(l.val + 128 - 112) % 128, by omega⟩ ⟨16 + l.val, by omega⟩ (by show (l.val + 128 - 112) % 128 = 16 + l.val; omega), rCI_apply, rSI_apply]
      rw [show l.val % 16 = l.val by omega]
    · rw [turn_second (by omega), dif_neg (show ¬ (⟨l.val, hl⟩ : Fin 32).val < 16 from hd), idx_lane R A5 x12 x9 h12 h9 hf ⟨(l.val + 128 - 16) % 128, by omega⟩ ⟨l.val - 16, by omega⟩ (by show (l.val + 128 - 16) % 128 = l.val - 16; omega), rCI_apply, rSI_apply]
      rw [show l.val % 16 = l.val - 16 by omega]
      refine congrArg₂ (· + ·) (congrArg (· * _) ?_) rfl
      exact congrArg (fun e => rNI P A5 (ix3 b y e)) (Fin.ext (by show l.val = 16 + (l.val - 16); omega))
  · rw [if_neg hl, dif_neg hl, hv]
    by_cases h8 : l.val - 32 < 8
    · rw [dif_pos h8, R.at_low _ ⟨1056 + (l.val - 32), by omega⟩ (by show 1024 + l.val < 1064; omega) (by show 1024 + l.val = 1056 + (l.val - 32); omega)]
    · rw [dif_neg h8, R.pad _ (by show ¬ 1024 + l.val < 1064; omega) (by show 1024 + l.val < 1152; omega), zero_mul]

/-- A value lane. -/
theorem va_lane (R : Row P K b y) (hb : r.val / 64 = b.val) (hy : r.val % 64 = y.val) (j : Fin 2176) (h : Fin 2) (d : Fin 64)
    (hj : j.val = 640 + (h.val * 64 + d.val)) : K (ix2 y j) = rVa P (ix3 r h d) := by
  have hb' : (⟨r.val / 64, by omega⟩ : Fin 16) = b := Fin.ext hb
  have hy' : (⟨r.val % 64, by omega⟩ : Fin 64) = y := Fin.ext hy
  rw [rVa_apply, hb', hy']
  exact R.at_low _ _ (by omega) hj

/-- A lane of the pooled stream. -/
theorem ub_lane (R : Row P K b y) (hb : r.val / 64 = b.val) (hy : r.val % 64 = y.val) (k : Fin 512) :
    K (ix2 y ⟨1152 + k.val, by omega⟩) = rUb P (ix2 r k) := by
  have hb' : (⟨r.val / 64, by omega⟩ : Fin 16) = b := Fin.ext hb
  have hy' : (⟨r.val % 64, by omega⟩ : Fin 64) = y := Fin.ext hy
  rw [rUb_apply, hb', hy']
  exact R.at_high _ _ (by show ¬ 1152 + k.val < 1152; omega) (by show 1152 + k.val = 1064 + k.val + 88; omega)

/-- A lane of the memory queries. -/
theorem qm_lane (R : Row P K b y) (hb : r.val / 64 = b.val) (hy : r.val % 64 = y.val) (A6 : FVec Ideal Cert.ProjRefIdeal.S128 .f32) (x10 : Vec Ideal S1x128 .f32)
    (h10 : ∀ l : Fin 128, x10 (ix2 0 l) = A6 (ix1 l)) (g : Fin 4) (d : Fin 128) (c : Fin 128 → Fin 2176) (hc : ∀ e, (c e).val = 1664 + g.val * 128 + e.val)
    (k : Fin 512) (hk : k.val = g.val * 128 + d.val) :
    rn 0x43000000#32 (fun e : Fin 128 => K (ix2 y (c e))) (fun e => x10 (ix2 0 e)) d = rQm P A6 (ix2 r k) := by
  have hb' : (⟨r.val / 64, by omega⟩ : Fin 16) = b := Fin.ext hb
  have hy' : (⟨r.val % 64, by omega⟩ : Fin 64) = y := Fin.ext hy
  have hK : ∀ e : Fin 128, K (ix2 y (c e)) = P (ix3 b y ⟨1576 + (k.val / 128 * 128 + e.val), by omega⟩) := fun e =>
    R.at_high _ _ (by rw [hc]; omega) (by rw [hc]; show _ = 1576 + (k.val / 128 * 128 + e.val) + 88; omega)
  rw [rQm_apply, hb', hy', rn]
  simp only [hK, h10]
  rw [show (⟨k.val % 128, by omega⟩ : Fin 128) = d from Fin.ext (by show k.val % 128 = d.val; omega)]
  refine congrArg (· * _) (congrArg (· * _) ?_)
  exact congrArg (fun j => P (ix3 b y j)) (Fin.ext (by show 1576 + (k.val / 128 * 128 + d.val) = 1576 + k.val; omega))

end Cert.ProjVal

end
-- ==== Proof.Val.ProjLane.lean ====
/- What a grid point of the projection call leaves in each of its results' blocks, lane by lane. -/
module

public import proofs.«01_k».proof.Defs
public import proofs.«01_k».proof.Proof.Gen.ProjIdeal.Value
public import proofs.«01_k».proof.Proof.Val.ProjOut
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal
open Cert.ProjIdeal Cert.ProjIdeal.Gen

variable (x0 : Vec Ideal S64x1024 .f32) (x1 : Vec Ideal S1x1024 .f32) (x2 : Vec Ideal S1024x2176 .bf16) (x3 x4 x5 x6 : Vec Ideal S64x128 .f32)
  (x7 : Vec Ideal S1x512 .f32) (x8 x9 x10 : Vec Ideal S1x128 .f32) (x11 : Vec Ideal S512x512 .bf16) (x12 : Vec Ideal S128x128 .bf16)

/-- Reading a whole block gives the block: the product. -/
theorem wrap50 : k0_pay50 x0 x1 x2 x3 x4 x5 x6 x7 x8 x9 x10 x11 x12 = k0_pay2 x0 x1 x2 := by
  unfold k0_pay50
  frame_out

/-- The keys' cosines. -/
theorem wrap51 : k0_pay51 x0 x1 x2 x3 x4 x5 x6 x7 x8 x9 x10 x11 x12 = x3 := by
  unfold k0_pay51 k0_pay3
  frame_out
  exact shapeCast_self _ _

/-- The keys' sines. -/
theorem wrap52 : k0_pay52 x0 x1 x2 x3 x4 x5 x6 x7 x8 x9 x10 x11 x12 = x4 := by
  unfold k0_pay52 k0_pay4
  frame_out
  exact shapeCast_self _ _

/-- The index keys' cosines. -/
theorem wrap53 : k0_pay53 x0 x1 x2 x3 x4 x5 x6 x7 x8 x9 x10 x11 x12 = x5 := by
  unfold k0_pay53 k0_pay5
  frame_out
  exact shapeCast_self _ _

/-- The index keys' sines. -/
theorem wrap54 : k0_pay54 x0 x1 x2 x3 x4 x5 x6 x7 x8 x9 x10 x11 x12 = x6 := by
  unfold k0_pay54 k0_pay6
  frame_out
  exact shapeCast_self _ _

/-- The blocks of ones. -/
theorem wrap55 : k0_pay55 x0 x1 x2 x3 x4 x5 x6 x7 x8 x9 x10 x11 x12 = x11 := by
  unfold k0_pay55 k0_pay7
  frame_out
  exact shapeCast_self _ _

/-- The memory queries' gains. -/
theorem wrap63 : k0_pay63 x0 x1 x2 x3 x4 x5 x6 x7 x8 x9 x10 x11 x12 = k0_pay40 x10 := by
  unfold k0_pay63
  frame_out

set_option maxHeartbeats 4000000 in
/-- The pooled stream's block. -/
theorem out18_apply (y : Fin 64) (k : Fin 512) : out0_18 x0 x1 x2 x3 x4 x5 x6 x7 x8 x9 x10 x11 x12 (ix2 y k) = k0_pay2 x0 x1 x2 (ix2 y ⟨1152 + k.val, by omega⟩) := by
  rw [← wrap50 x0 x1 x2 x3 x4 x5 x6 x7 x8 x9 x10 x11 x12]
  unfold out0_18
  generalize k0_pay50 x0 x1 x2 x3 x4 x5 x6 x7 x8 x9 x10 x11 x12 = K
  frame_out
  exact ub_apply K y k

set_option maxHeartbeats 4000000 in
/-- The index keys' block. -/
theorem out17_apply (y : Fin 64) (l : Fin 128) : out0_17 x0 x1 x2 x3 x4 x5 x6 x7 x8 x9 x10 x11 x12 (ix2 y l)
    = k0_pay38 x5 x6 (k0_pay36 (k0_pay2 x0 x1 x2)) (k0_pay37 (k0_pay2 x0 x1 x2) x12 x9) (iota .tc S64x128 32 [1] iota_S64x128_d1_w32) 32#32 (Scalar.cmpi .eq 32#32 0#32) 1#32 (ix2 y l) := by
  unfold out0_17
  rw [wrap50, wrap53, wrap54]
  generalize k0_pay2 x0 x1 x2 = K
  frame_out

set_option maxHeartbeats 4000000 in
/-- The values' block: each head is a store of its own. -/
theorem out15_apply (y : Fin 64) (h : Fin 2) (d : Fin 64) : out0_15 x0 x1 x2 x3 x4 x5 x6 x7 x8 x9 x10 x11 x12 (ix3 y h d) = k0_pay2 x0 x1 x2 (ix2 y ⟨640 + (h.val * 64 + d.val), by omega⟩) := by
  unfold out0_15
  rw [wrap50]
  generalize k0_pay2 x0 x1 x2 = K
  refine View.canon_eq_of_allAt _ _ _ (View.cover_of_tiled_head _ _ _ (by rfl) _) ?_
  refine View.allAt_cons_unit _ _ _ _ _ (fun z e => ?_) (View.allAt_cons_unit _ _ _ _ _ (fun z e => ?_) (View.allAt_nil _ _))
  · idx_vars z
    obtain rfl : z1 = 0 := Subsingleton.elim _ _
    have e0 : y.val = 0 + z0.val := e 0
    have e1 : h.val = 1 + 0 := e 1
    have e2 : d.val = 0 + z2.val := e 2
    refine (val1_apply K z0 z2).trans (congrArg K (congrArg₂ ix2 (Fin.ext (by omega)) (Fin.ext ?_)))
    show 640 + (z2.val + 128 - 64) % 128 = 640 + (h.val * 64 + d.val)
    omega
  · idx_vars z
    obtain rfl : z1 = 0 := Subsingleton.elim _ _
    have e0 : y.val = 0 + z0.val := e 0
    have e1 : h.val = 0 + 0 := e 1
    have e2 : d.val = 0 + z2.val := e 2
    refine (val0_apply K z0 z2).trans (congrArg K (congrArg₂ ix2 (Fin.ext (by omega)) (Fin.ext ?_)))
    show 640 + z2.val = 640 + (h.val * 64 + d.val)
    omega

set_option maxHeartbeats 4000000 in
/-- The keys' block: each head is a store of its own. -/
theorem out14_apply (y : Fin 64) (h : Fin 2) (d : Fin 64) : out0_14 x0 x1 x2 x3 x4 x5 x6 x7 x8 x9 x10 x11 x12 (ix3 y h d)
    = k0_pay29 x3 x4 (k0_pay26 (k0_pay2 x0 x1 x2)) (k0_pay27 (k0_pay2 x0 x1 x2) x11) k0_pay28 x8 (ix2 y ⟨h.val * 64 + d.val, by omega⟩) := by
  unfold out0_14 k0_pay60 k0_pay61 k0_pay62
  rw [wrap50, wrap51, wrap52, wrap55, show View.ld x8 r0_12 = x8 from View.ld_unit_lit _ _ (by decide)]
  generalize k0_pay2 x0 x1 x2 = K
  refine View.canon_eq_of_allAt _ _ _ (View.cover_of_tiled_head _ _ _ (by rfl) _) ?_
  refine View.allAt_cons_unit _ _ _ _ _ (fun z e => ?_) (View.allAt_cons_unit _ _ _ _ _ (fun z e => ?_) (View.allAt_nil _ _))
  · idx_vars z
    obtain rfl : z1 = 0 := Subsingleton.elim _ _
    have e0 : y.val = 0 + z0.val := e 0
    have e1 : h.val = 1 + 0 := e 1
    have e2 : d.val = 0 + z2.val := e 2
    refine (key1_apply _ z0 z2).trans (congrArg _ (congrArg₂ ix2 (Fin.ext (by omega)) (Fin.ext ?_)))
    show (z2.val + 128 - 64) % 128 = h.val * 64 + d.val
    omega
  · idx_vars z
    obtain rfl : z1 = 0 := Subsingleton.elim _ _
    have e0 : y.val = 0 + z0.val := e 0
    have e1 : h.val = 0 + 0 := e 1
    have e2 : d.val = 0 + z2.val := e 2
    refine (key0_apply _ _ _ _ _ _ z0 z2).trans (congrArg _ (congrArg₂ ix2 (Fin.ext (by omega)) (Fin.ext ?_)))
    show z2.val = h.val * 64 + d.val
    omega

set_option maxHeartbeats 4000000 in
/-- The memory queries' block: each head is a store of its own. -/
theorem out19_apply (y : Fin 64) (g : Fin 4) (d : Fin 128) (k : Fin 512) (hk : k.val = g.val * 128 + d.val) (c : Fin 128 → Fin 2176) (hc : ∀ e, (c e).val = 1664 + g.val * 128 + e.val) :
    out0_19 x0 x1 x2 x3 x4 x5 x6 x7 x8 x9 x10 x11 x12 (ix2 y k) = rn 0x43000000#32 (fun e : Fin 128 => k0_pay2 x0 x1 x2 (ix2 y (c e))) (fun e => x10 (ix2 0 e)) d := by
  unfold out0_19
  rw [wrap50, wrap63]
  generalize k0_pay2 x0 x1 x2 = K
  refine View.canon_eq_of_allAt _ _ _ (View.cover_of_tiled_head _ _ _ (by rfl) _) ?_
  refine View.allAt_cons_unit _ _ _ _ _ (fun z e => ?_) (View.allAt_cons_unit _ _ _ _ _ (fun z e => ?_) (View.allAt_cons_unit _ _ _ _ _ (fun z e => ?_)
    (View.allAt_cons_unit _ _ _ _ _ (fun z e => ?_) (View.allAt_nil _ _)))) <;> idx_vars z
  · have e0 : y.val = 0 + z0.val := e 0
    have e1 : k.val = 384 + z1.val := e 1
    obtain rfl : y = z0 := Fin.ext (by omega)
    obtain rfl : d = z1 := Fin.ext (by omega)
    rw [qm3_apply]
    rw [show c = fun e => ⟨2048 + e.val, by omega⟩ from funext fun e => Fin.ext (by rw [hc]; show _ = 2048 + e.val; omega)]
  · have e0 : y.val = 0 + z0.val := e 0
    have e1 : k.val = 256 + z1.val := e 1
    obtain rfl : y = z0 := Fin.ext (by omega)
    obtain rfl : d = z1 := Fin.ext (by omega)
    rw [qm2_apply]
    rw [show c = fun e => ⟨1920 + e.val, by omega⟩ from funext fun e => Fin.ext (by rw [hc]; show _ = 1920 + e.val; omega)]
  · have e0 : y.val = 0 + z0.val := e 0
    have e1 : k.val = 128 + z1.val := e 1
    obtain rfl : y = z0 := Fin.ext (by omega)
    obtain rfl : d = z1 := Fin.ext (by omega)
    rw [qm1_apply]
    rw [show c = fun e => ⟨1792 + e.val, by omega⟩ from funext fun e => Fin.ext (by rw [hc]; show _ = 1792 + e.val; omega)]
  · have e0 : y.val = 0 + z0.val := e 0
    have e1 : k.val = 0 + z1.val := e 1
    obtain rfl : y = z0 := Fin.ext (by omega)
    obtain rfl : d = z1 := Fin.ext (by omega)
    rw [qm0_apply]
    rw [show c = fun e => ⟨1664 + e.val, by omega⟩ from funext fun e => Fin.ext (by rw [hc]; show _ = 1664 + e.val; omega)]

end Cert.ProjVal

end
-- ==== Proof.Val.ProjRow.lean ====
/- The projection call's product rows at a grid point are the plain reference's. -/
module

public import proofs.«01_k».proof.Defs
public import proofs.«01_k».proof.Proof.Gen.ProjIdeal.Value
public import proofs.«01_k».proof.Proof.Val.ProjBlk
public import proofs.«01_k».proof.Proof.Val.ProjBlkM
public import proofs.«01_k».proof.Proof.Val.ProjBlkW
public import proofs.«01_k».proof.Proof.Val.ProjLane
public import proofs.«01_k».proof.Proof.Val.ProjPre
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal
open Cert.ProjIdeal Cert.ProjIdeal.Gen

section point

variable (m : (ℓ : Loc nD τ sig) → Buf (Elt Ideal) ℓ) (c : Dev nD) (t : Fin cfg0.N)

/-- A grid point's rows of the product are the reference's. -/
theorem row (b : Fin 16) (hb : b.val = t.val) (y : Fin 64) :
    Row (rP (m (c.tc.loc main_arg0)) (m (c.tc.loc main_arg1)) (m (c.tc.loc main_arg2))) (k0_pay2 (iblk m c 0 t) (iblk m c 1 t) (iblk m c 2 t)) b y where
  low j h := by
    rw [prod_apply, rP_apply]
    simp only [blk0 m c t b hb, blk1, blk2, dif_pos h]
  pad j h h' := by
    rw [prod_apply]
    refine Finset.sum_eq_zero fun k _ => ?_
    rw [blk2, dif_neg h, dif_pos h', mul_zero]
  high j h := by
    rw [prod_apply, rP_apply]
    simp only [blk0 m c t b hb, blk1, blk2, dif_neg h, dif_neg (show ¬ j.val < 1064 by omega)]

/-- An entry of the reference's product is finite where its column of the weights and the rows' gains are. -/
theorem rP_fin (A0 : FVec Ideal Cert.ProjRefIdeal.S16x64x1024 .f32) (A1 : FVec Ideal Cert.ProjRefIdeal.S1024 .f32) (A2 : FVec Ideal Cert.ProjRefIdeal.S1024x5160 .f32)
    (b : Fin 16) (y : Fin 64) (j : Fin 5160) (hg : ∀ k : Fin 1024, Fin' (A1 (ix1 k))) (hw : ∀ k : Fin 1024, Fin' (A2 (ix2 k j))) : Fin' (rP A0 A1 A2 (ix3 b y j)) := by
  rw [rP_apply]
  exact fin_sum _ _ fun k => fin_mul (rn_fin _ _ k (hg k)) (hw k)

end point

/-- The token of row `y` of grid point `t`. -/
def tok (t : Fin cfg0.N) (y : Fin 64) : Fin 1024 := ⟨t.val * 64 + y.val, by have : t.val < 16 := t.isLt; omega⟩

/-- The sample of grid point `t`. -/
def smp (t : Fin cfg0.N) : Fin 16 := ⟨t.val, t.isLt⟩

/-- The sample of a token. -/
theorem tok_div (t : Fin cfg0.N) (y : Fin 64) : (tok t y).val / 64 = (smp t).val := by show (t.val * 64 + y.val) / 64 = t.val; omega

/-- The row of a token in its sample. -/
theorem tok_mod (t : Fin cfg0.N) (y : Fin 64) : (tok t y).val % 64 = y.val := by show (t.val * 64 + y.val) % 64 = y.val; omega

end Cert.ProjVal

end
-- ==== Proof.Val.ProjResA.lean ====
/- The keys and the values of the projection call, read block by block, are the plain reference's. -/
module

public import proofs.«01_k».proof.Defs
public import proofs.«01_k».proof.Proof.Gen.ProjIdeal.Value
public import proofs.«01_k».proof.Proof.Val.ProjBlk
public import proofs.«01_k».proof.Proof.Val.ProjBlkM
public import proofs.«01_k».proof.Proof.Val.ProjBlkW
public import proofs.«01_k».proof.Proof.Val.ProjRow
public import proofs.«01_k».proof.Proof.Val.ProjPre
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal
open Cert.ProjIdeal Cert.ProjIdeal.Gen

variable (m : (ℓ : Loc nD τ sig) → Buf (Elt Ideal) ℓ) (h : Cert.Pre_ProjIdeal_keys_finite (hPre_keys_finite := preFacts) m) (c : Dev nD)

include h in
/-- A grid point's block of the keys is the reference's. -/
theorem out14_eq (t : Fin cfg0.N) (y0 : Fin 64) (y1 : Fin 2) (y2 : Fin 64) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 y0 y1 y2) = rKa (rNA (rP (m (c.tc.loc main_arg0)) (m (c.tc.loc main_arg1)) (m (c.tc.loc main_arg2))) (m (c.tc.loc main_arg4))) rCA rSA (((cfg0.win 14).blk t).view.emb (ix3 y0 y1 y2)) := by
    rw [out14_apply, emb14 t y0 (tok t y0) rfl y1 y2]
    exact key_turn (row m c t (smp t) rfl y0) (tok_div t y0) (tok_mod t y0) (m (c.tc.loc main_arg4)) _ _ _ _ _ _ (blk3 m c t y0) (blk4 m c t y0) (blk11 m c t) (blk8 m c t)
      (fun l => by pointwise [k0_pay28]) (fun l => by pointwise [k0_pay26])
      (fun j => by
        rw [(row m c t (smp t) rfl y0).at_low _ ⟨512 + j.val, by omega⟩ (by show 512 + j.val < 1064; omega) rfl]
        exact rP_fin _ _ _ _ _ _ (gain_fin m h c) fun k => key_fin m h c k j) _ y1 y2 rfl

include h in
/-- The array of the keys after the run is the reference's. -/
theorem result14 : (dats m 0 c).arrAt 14 cfg0.N = rKa (rNA (rP (m (c.tc.loc main_arg0)) (m (c.tc.loc main_arg1)) (m (c.tc.loc main_arg2))) (m (c.tc.loc main_arg4))) rCA rSA := by
  have key := out14_eq m h c
  generalize rKa _ _ _ = R at key ⊢
  refine (dats m 0 c).arrAt_eq_of_covers 14 _ (by decide +kernel) fun t hf y => ?_
  rw [after0_14]
  idx_vars y
  have k := key t y0 y1 y2
  clear key
  generalize out0_14 (F := Ideal) _ _ _ _ _ _ _ _ _ _ _ _ _ = O at k ⊢
  refine Eq.trans ?_ k
  exact congrArg O (show (win0 14).xinj (grid0.coords t) (ix3 y0 y1 y2) = ix3 y0 y1 y2 from rfl)

/-- A grid point's block of the values is the reference's. -/
theorem out15_eq (t : Fin cfg0.N) (y0 : Fin 64) (y1 : Fin 2) (y2 : Fin 64) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 y0 y1 y2) = rVa (rP (m (c.tc.loc main_arg0)) (m (c.tc.loc main_arg1)) (m (c.tc.loc main_arg2))) (((cfg0.win 15).blk t).view.emb (ix3 y0 y1 y2)) := by
    rw [out15_apply, emb15 t y0 (tok t y0) rfl y1 y2]
    exact va_lane (row m c t (smp t) rfl y0) (tok_div t y0) (tok_mod t y0) _ y1 y2 rfl

/-- The array of the values after the run is the reference's. -/
theorem result15 : (dats m 0 c).arrAt 15 cfg0.N = rVa (rP (m (c.tc.loc main_arg0)) (m (c.tc.loc main_arg1)) (m (c.tc.loc main_arg2))) := by
  have key := out15_eq m c
  generalize rVa _ = R at key ⊢
  refine (dats m 0 c).arrAt_eq_of_covers 15 _ (by decide +kernel) fun t hf y => ?_
  rw [after0_15]
  idx_vars y
  have k := key t y0 y1 y2
  clear key
  generalize out0_15 (F := Ideal) _ _ _ _ _ _ _ _ _ _ _ _ _ = O at k ⊢
  refine Eq.trans ?_ k
  exact congrArg O (show (win0 15).xinj (grid0.coords t) (ix3 y0 y1 y2) = ix3 y0 y1 y2 from rfl)

end Cert.ProjVal

end
-- ==== Proof.Val.ProjResB.lean ====
/- The index keys, the pooled stream and the memory queries of the projection call, read block by block, are the plain reference's. -/
module

public import proofs.«01_k».proof.Defs
public import proofs.«01_k».proof.Proof.Gen.ProjIdeal.Value
public import proofs.«01_k».proof.Proof.Val.ProjBlk
public import proofs.«01_k».proof.Proof.Val.ProjBlkM
public import proofs.«01_k».proof.Proof.Val.ProjBlkW
public import proofs.«01_k».proof.Proof.Val.ProjRow
public import proofs.«01_k».proof.Proof.Val.ProjPre
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal
open Cert.ProjIdeal Cert.ProjIdeal.Gen

variable (m : (ℓ : Loc nD τ sig) → Buf (Elt Ideal) ℓ) (h : Cert.Pre_ProjIdeal_keys_finite (hPre_keys_finite := preFacts) m) (c : Dev nD)

include h in
/-- A grid point's block of the index keys and their weights is the reference's. -/
theorem out17_eq (t : Fin cfg0.N) (y0 : Fin 64) (y1 : Fin 128) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y0 y1) = rKw (rP (m (c.tc.loc main_arg0)) (m (c.tc.loc main_arg1)) (m (c.tc.loc main_arg2))) (rRI (rNI (rP (m (c.tc.loc main_arg0)) (m (c.tc.loc main_arg1)) (m (c.tc.loc main_arg2))) (m (c.tc.loc main_arg5))) rCI rSI) (((cfg0.win 17).blk t).view.emb (ix2 y0 y1)) := by
    rw [out17_apply, emb17 t y0 (tok t y0) rfl y1]
    exact kw_lane (row m c t (smp t) rfl y0) (tok_div t y0) (tok_mod t y0) (m (c.tc.loc main_arg5)) _ _ _ _ _ (blk5 m c t y0) (blk6 m c t y0) (blk12 m c t) (blk9 m c t)
      (fun l => by pointwise [k0_pay36])
      (fun j => by
        rw [(row m c t (smp t) rfl y0).at_low _ ⟨1024 + j.val, by omega⟩ (by show 1024 + j.val < 1064; omega) rfl]
        exact rP_fin _ _ _ _ _ _ (gain_fin m h c) fun k => idx_fin m h c k j) y1

include h in
/-- The array of the index keys and their weights after the run is the reference's. -/
theorem result17 : (dats m 0 c).arrAt 17 cfg0.N = rKw (rP (m (c.tc.loc main_arg0)) (m (c.tc.loc main_arg1)) (m (c.tc.loc main_arg2))) (rRI (rNI (rP (m (c.tc.loc main_arg0)) (m (c.tc.loc main_arg1)) (m (c.tc.loc main_arg2))) (m (c.tc.loc main_arg5))) rCI rSI) := by
  have key := out17_eq m h c
  generalize rKw _ _ = R at key ⊢
  refine (dats m 0 c).arrAt_eq_of_covers 17 _ (by decide +kernel) fun t hf y => ?_
  rw [after0_17]
  idx_vars y
  have k := key t y0 y1
  clear key
  generalize out0_17 (F := Ideal) _ _ _ _ _ _ _ _ _ _ _ _ _ = O at k ⊢
  refine Eq.trans ?_ k
  exact congrArg O (show (win0 17).xinj (grid0.coords t) (ix2 y0 y1) = ix2 y0 y1 from rfl)

/-- A grid point's block of the pooled stream is the reference's. -/
theorem out18_eq (t : Fin cfg0.N) (y0 : Fin 64) (y1 : Fin 512) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y0 y1) = rUb (rP (m (c.tc.loc main_arg0)) (m (c.tc.loc main_arg1)) (m (c.tc.loc main_arg2))) (((cfg0.win 18).blk t).view.emb (ix2 y0 y1)) := by
    rw [out18_apply, emb18 t y0 (tok t y0) rfl y1]
    exact ub_lane (row m c t (smp t) rfl y0) (tok_div t y0) (tok_mod t y0) y1

/-- The array of the pooled stream after the run is the reference's. -/
theorem result18 : (dats m 0 c).arrAt 18 cfg0.N = rUb (rP (m (c.tc.loc main_arg0)) (m (c.tc.loc main_arg1)) (m (c.tc.loc main_arg2))) := by
  have key := out18_eq m c
  generalize rUb _ = R at key ⊢
  refine (dats m 0 c).arrAt_eq_of_covers 18 _ (by decide +kernel) fun t hf y => ?_
  rw [after0_18]
  idx_vars y
  have k := key t y0 y1
  clear key
  generalize out0_18 (F := Ideal) _ _ _ _ _ _ _ _ _ _ _ _ _ = O at k ⊢
  refine Eq.trans ?_ k
  exact congrArg O (show (win0 18).xinj (grid0.coords t) (ix2 y0 y1) = ix2 y0 y1 from rfl)

/-- A grid point's block of the memory queries is the reference's. -/
theorem out19_eq (t : Fin cfg0.N) (y0 : Fin 64) (y1 : Fin 512) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y0 y1) = rQm (rP (m (c.tc.loc main_arg0)) (m (c.tc.loc main_arg1)) (m (c.tc.loc main_arg2))) (m (c.tc.loc main_arg6)) (((cfg0.win 19).blk t).view.emb (ix2 y0 y1)) := by
    rw [out19_apply _ _ _ _ _ _ _ _ _ _ _ _ _ y0 ⟨y1.val / 128, by omega⟩ ⟨y1.val % 128, by omega⟩ y1 (by show y1.val = y1.val / 128 * 128 + y1.val % 128; omega)
      (fun e => ⟨1664 + y1.val / 128 * 128 + e.val, by omega⟩) (fun e => rfl), emb19 t y0 (tok t y0) rfl y1]
    exact qm_lane (row m c t (smp t) rfl y0) (tok_div t y0) (tok_mod t y0) (m (c.tc.loc main_arg6)) _ (blk10 m c t) ⟨y1.val / 128, by omega⟩ ⟨y1.val % 128, by omega⟩ _ (fun e => rfl)
      y1 (by show y1.val = y1.val / 128 * 128 + y1.val % 128; omega)

/-- The array of the memory queries after the run is the reference's. -/
theorem result19 : (dats m 0 c).arrAt 19 cfg0.N = rQm (rP (m (c.tc.loc main_arg0)) (m (c.tc.loc main_arg1)) (m (c.tc.loc main_arg2))) (m (c.tc.loc main_arg6)) := by
  have key := out19_eq m c
  generalize rQm _ _ = R at key ⊢
  refine (dats m 0 c).arrAt_eq_of_covers 19 _ (by decide +kernel) fun t hf y => ?_
  rw [after0_19]
  idx_vars y
  have k := key t y0 y1
  clear key
  generalize out0_19 (F := Ideal) _ _ _ _ _ _ _ _ _ _ _ _ _ = O at k ⊢
  refine Eq.trans ?_ k
  exact congrArg O (show (win0 19).xinj (grid0.coords t) (ix2 y0 y1) = ix2 y0 y1 from rfl)

end Cert.ProjVal

end
-- ==== Proof.Val.Proj.lean ====
/- The projection call on the sample batch: its results are the plain reference's. -/
module

public import proofs.«01_k».proof.Defs
public import proofs.«01_k».proof.Proof.Gen.ProjIdeal.Value
public import proofs.«01_k».proof.Proof.Gen.ProjRefIdeal.Run
public import proofs.«01_k».proof.Proof.Val.ProjPre
public import proofs.«01_k».proof.Proof.Val.ProjResA
public import proofs.«01_k».proof.Proof.Val.ProjResB
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjVal
open Cert.ProjIdeal Cert.ProjIdeal.Gen

set_option maxHeartbeats 4000000 in
/-- The value claim of the projection call: at the extended reals its results are the plain reference's, for finite keys' weights and gains. -/
theorem algebraic : Cert.algebraic_ProjIdeal_ProjRefIdeal_pre_keys_finite (hPre_keys_finite := preFacts) := by
  pair_intro
  · run_from run_main m g
    all_goals first | exact hc.1 14 | exact hc.1 15 | exact hc.1 17 | exact hc.1 18 | exact hc.1 19 | exact V_main_arg0 m c | exact V_main_arg1 m c | exact V_main_arg2 m c | exact V_main_arg3 m c | exact V_main_arg4 m c | exact V_main_arg5 m c | exact V_main_arg6 m c
  · run_from Cert.ProjRefIdeal.Value.run m' g'
    all_goals obtain ⟨h0, h1, h2, h3, h4, h5, h6⟩ := hagree c
    all_goals first
      | exact V_main_arg0 m c | exact V_main_arg1 m c | exact V_main_arg2 m c | exact V_main_arg3 m c | exact V_main_arg4 m c | exact V_main_arg5 m c | exact V_main_arg6 m c
      | exact ((ka_eq m' c).trans (by rw [h0, h1, h2, h4])).trans (result14 m hpre c).symm
      | exact (result15 m c).symm
      | exact ((kw_eq m' c).trans (by rw [h0, h1, h2, h5])).trans (result17 m hpre c).symm
      | exact (result18 m c).symm
      | exact (result19 m c).symm

end Cert.ProjVal

end
-- ==== Proof.lean ====
/- The proof of the certificate's claim: each call's runs (its own program, the program read over the extended reals, the
   reference), and each call's result against the plain reference's. -/
module

public import proofs.«01_k».proof.Defs
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.Val.MemKv
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Val.Ffn
public import proofs.«01_k».proof.Proof.Gen.FfnS.Frame
public import proofs.«01_k».proof.Proof.Gen.FfnSIdeal.Frame
public import proofs.«01_k».proof.Proof.Gen.FfnSIdeal.Value
public import proofs.«01_k».proof.Proof.Gen.FfnSRefIdeal.Run
public import proofs.«01_k».proof.Proof.Val.FfnS
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Val.Merge
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Val.Proj
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference `MemKvRefIdeal` runs, its arguments end unchanged and every counter ends at zero. -/
theorem MemKvRefIdeal_frame : Cert.quiescent_MemKvRefIdeal (hMemKvRefIdeal := Cert.MemKvRefIdeal.Gen.facts) := by
  intro m g _
  exact (θ_run _ _ _).mono (fun _ h => ⟨fun c => by have h' := h c; simp only [h', and_self], sem_eq_zero_of_no_sems rfl _⟩)
    (Cert.MemKvRefIdeal.Value.run m g)

/-- The reference `FfnRefIdeal` runs, its arguments end unchanged and every counter ends at zero. -/
theorem FfnRefIdeal_frame : Cert.quiescent_FfnRefIdeal (hFfnRefIdeal := Cert.FfnRefIdeal.Gen.facts) := by
  intro m g _
  exact (θ_run _ _ _).mono (fun _ h => ⟨fun c => by have h' := h c; simp only [h', and_self], sem_eq_zero_of_no_sems rfl _⟩)
    (Cert.FfnRefIdeal.Value.run m g)

/-- The reference `FfnSRefIdeal` runs, its arguments end unchanged and every counter ends at zero. -/
theorem FfnSRefIdeal_frame : Cert.quiescent_FfnSRefIdeal (hFfnSRefIdeal := Cert.FfnSRefIdeal.Gen.facts) := by
  intro m g _
  exact (θ_run _ _ _).mono (fun _ h => ⟨fun c => by have h' := h c; simp only [h', and_self], sem_eq_zero_of_no_sems rfl _⟩)
    (Cert.FfnSRefIdeal.Value.run m g)

/-- The reference `MergeRefIdeal` runs, its arguments end unchanged and every counter ends at zero. -/
theorem MergeRefIdeal_frame : Cert.quiescent_MergeRefIdeal (hMergeRefIdeal := Cert.MergeRefIdeal.Gen.facts) := by
  intro m g _
  exact (θ_run _ _ _).mono (fun _ h => ⟨fun c => by have h' := h c; simp only [h', and_self], sem_eq_zero_of_no_sems rfl _⟩)
    (Cert.MergeRefIdeal.Value.run m g)

/-- The reference `ProjRefIdeal` runs, its arguments end unchanged and every counter ends at zero. -/
theorem ProjRefIdeal_frame : Cert.quiescent_ProjRefIdeal (hProjRefIdeal := Cert.ProjRefIdeal.Gen.facts) := by
  intro m g _
  exact (θ_run _ _ _).mono (fun _ h => ⟨fun c => by have h' := h c; simp only [h', and_self], sem_eq_zero_of_no_sems rfl _⟩)
    (Cert.ProjRefIdeal.Value.run m g)

/-- Everything this certificate claims. -/
theorem claim : Cert.Claim :=
  ⟨Cert.MemKv.Gen.facts, Cert.MemKvIdeal.Gen.facts, Cert.MemKvRefIdeal.Gen.facts, Cert.Ffn.Gen.facts, Cert.FfnIdeal.Gen.facts, Cert.FfnRefIdeal.Gen.facts, Cert.FfnS.Gen.facts, Cert.FfnSIdeal.Gen.facts, Cert.FfnSRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.MergeVal.preFacts, Cert.ProjVal.preFacts,
   fun m ρ _ => Cert.MemKv.Gen.frame m ρ,
   fun m ρ _ => Cert.MemKvIdeal.Gen.frame m ρ,
   MemKvRefIdeal_frame,
   fun m ρ _ => Cert.Ffn.Gen.frame m ρ,
   fun m ρ _ => Cert.FfnIdeal.Gen.frame m ρ,
   FfnRefIdeal_frame,
   fun m ρ _ => Cert.FfnS.Gen.frame m ρ,
   fun m ρ _ => Cert.FfnSIdeal.Gen.frame m ρ,
   FfnSRefIdeal_frame,
   fun m ρ _ => Cert.Merge.Gen.frame m ρ,
   fun m ρ _ => Cert.MergeIdeal.Gen.frame m ρ,
   fun m ρ _ => Cert.MergeIdeal.Gen.frame m ρ,
   MergeRefIdeal_frame,
   fun m ρ _ => MergeRefIdeal_frame m ρ trivial,
   fun m ρ _ => Cert.Proj.Gen.frame m ρ,
   fun m ρ _ => Cert.ProjIdeal.Gen.frame m ρ,
   fun m ρ _ => Cert.ProjIdeal.Gen.frame m ρ,
   ProjRefIdeal_frame,
   fun m ρ _ => ProjRefIdeal_frame m ρ trivial,
   trivial,
   Cert.MemKvVal.algebraic,
   trivial,
   Cert.FfnVal.algebraic,
   trivial,
   Cert.FfnSVal.algebraic,
   trivial,
   Cert.MergeVal.algebraic,
   trivial,
   Cert.ProjVal.algebraic⟩

end Cert.Proof

end
